-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S32x16 : Shape := ⟨2, ![32, 16]⟩
abbrev S100000x64 : Shape := ⟨2, ![100000, 64]⟩
abbrev S100000 : Shape := ⟨1, ![100000]⟩
abbrev S_ : Shape := ⟨0, ![]⟩

class Facts : Prop where
  bcast_S_S32x16 : S_.BroadcastsInDim S32x16 (![] : Fin 0 → Fin S32x16.rank)
  reducesTo_S32x16_S_d0_1 : S32x16.ReducesTo [0, 1] S_
  h_S_ : 0 < S_.numel

variable [Facts]

def fn {F : FTy → Type} [FloatOps F] (main_arg0 : IVec S32x16 32) (main_arg1 : IVec S32x16 32) (main_arg2 : FVec F S100000x64 .f32) (main_arg3 : FVec F S100000x64 .f32) (main_arg4 : FVec F S100000 .f32) : IVec S_ 1 :=
  let main_c : IVec S_ 32 := constantI S_ 32 0#32
  let main_v0 : IVec S32x16 32 := broadcastInDim S32x16 ![] bcast_S_S32x16 main_c
  let main_v1 : IVec S32x16 1 := cmpi .sge main_arg0 main_v0
  let main_c_0 : IVec S_ 32 := constantI S_ 32 100000#32
  let main_v2 : IVec S32x16 32 := broadcastInDim S32x16 ![] bcast_S_S32x16 main_c_0
  let main_v3 : IVec S32x16 1 := cmpi .slt main_arg0 main_v2
  let main_v4 : IVec S32x16 1 := andi main_v1 main_v3
  let main_c_1 : IVec S_ 1 := constantI S_ 1 1#1
  let main_v5 : IVec S_ 1 := (fun x v => Host.reduce IntOp.andi x v reducesTo_S32x16_S_d0_1 h_S_) main_v4 main_c_1
  main_v5
-- ==== Kernel.lean ====
abbrev S32x16 : Shape := ⟨2, ![32, 16]⟩
abbrev S100000x64 : Shape := ⟨2, ![100000, 64]⟩
abbrev S100000 : Shape := ⟨1, ![100000]⟩
abbrev S512 : Shape := ⟨1, ![512]⟩
abbrev S_ : Shape := ⟨0, ![]⟩
abbrev S512x1 : Shape := ⟨2, ![512, 1]⟩
abbrev S64x100000 : Shape := ⟨2, ![64, 100000]⟩
abbrev S50176x128 : Shape := ⟨2, ![50176, 128]⟩
abbrev S64x1024 : Shape := ⟨2, ![64, 1024]⟩
abbrev S1024x128 : Shape := ⟨2, ![1024, 128]⟩
abbrev S64x64 : Shape := ⟨2, ![64, 64]⟩
abbrev S1024x64 : Shape := ⟨2, ![1024, 64]⟩
abbrev S512x128 : Shape := ⟨2, ![512, 128]⟩
abbrev S16 : Shape := ⟨1, ![16]⟩
abbrev S16x128 : Shape := ⟨2, ![16, 128]⟩
abbrev S1x100000 : Shape := ⟨2, ![1, 100000]⟩
abbrev S512x100000 : Shape := ⟨2, ![512, 100000]⟩
abbrev S64x4096 : Shape := ⟨2, ![64, 4096]⟩
abbrev S1x4096 : Shape := ⟨2, ![1, 4096]⟩
abbrev S512x4096 : Shape := ⟨2, ![512, 4096]⟩
abbrev S512x64 : Shape := ⟨2, ![512, 64]⟩
abbrev S32x16x100000 : Shape := ⟨3, ![32, 16, 100000]⟩

abbrev nBuf : Table → Nat
  | .hbm => 22
  | .local .tc .vmem => 14
  | .local .scVector .vmem => 2
  | _ => 0

abbrev bufTy : (tb : Table) → Fin (nBuf tb) → BufTy
  | .hbm, ⟨0, _⟩ => ⟨S32x16, .i32⟩
  | .hbm, ⟨1, _⟩ => ⟨S32x16, .i32⟩
  | .hbm, ⟨2, _⟩ => ⟨S100000x64, .f32⟩
  | .hbm, ⟨3, _⟩ => ⟨S100000x64, .f32⟩
  | .hbm, ⟨4, _⟩ => ⟨S100000, .f32⟩
  | .hbm, ⟨5, _⟩ => ⟨S512, .i32⟩
  | .hbm, ⟨6, _⟩ => ⟨S_, .i32⟩
  | .hbm, ⟨7, _⟩ => ⟨S512, .i32⟩
  | .hbm, ⟨8, _⟩ => ⟨S512, .i1⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S512, .f32⟩
  | .hbm, ⟨14, _⟩ => ⟨S512x1, .f32⟩
  | .hbm, ⟨15, _⟩ => ⟨S64x100000, .f32⟩
  | .hbm, ⟨16, _⟩ => ⟨S50176x128, .f32⟩
  | .hbm, ⟨17, _⟩ => ⟨S512x128, .f32⟩
  | .hbm, ⟨18, _⟩ => ⟨S64x100000, .f32⟩
  | .hbm, ⟨19, _⟩ => ⟨S1x100000, .f32⟩
  | .hbm, ⟨20, _⟩ => ⟨S512x100000, .f32⟩
  | .hbm, ⟨21, _⟩ => ⟨S32x16x100000, .f32⟩
  | .local .tc .vmem, ⟨0, _⟩ => ⟨S64x1024, .f32⟩
  | .local .tc .vmem, ⟨1, _⟩ => ⟨S64x1024, .f32⟩
  | .local .tc .vmem, ⟨2, _⟩ => ⟨S64x1024, .f32⟩
  | .local .tc .vmem, ⟨3, _⟩ => ⟨S64x1024, .f32⟩
  | .local .tc .vmem, ⟨4, _⟩ => ⟨S1024x128, .f32⟩
  | .local .tc .vmem, ⟨5, _⟩ => ⟨S1024x128, .f32⟩
  | .local .tc .vmem, ⟨6, _⟩ => ⟨S512x128, .f32⟩
  | .local .tc .vmem, ⟨7, _⟩ => ⟨S512x1, .f32⟩
  | .local .tc .vmem, ⟨8, _⟩ => ⟨S64x4096, .f32⟩
  | .local .tc .vmem, ⟨9, _⟩ => ⟨S64x4096, .f32⟩
  | .local .tc .vmem, ⟨10, _⟩ => ⟨S1x4096, .f32⟩
  | .local .tc .vmem, ⟨11, _⟩ => ⟨S1x4096, .f32⟩
  | .local .tc .vmem, ⟨12, _⟩ => ⟨S512x4096, .f32⟩
  | .local .tc .vmem, ⟨13, _⟩ => ⟨S512x4096, .f32⟩
  | .local .scVector .vmem, ⟨0, _⟩ => ⟨S16, .i32⟩
  | .local .scVector .vmem, ⟨1, _⟩ => ⟨S16x128, .f32⟩
  | _, _ => ⟨S32x16, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v9_scv : Ref sig .scVector := ⟨.hbm, 16, rfl⟩
abbrev main_v5_scv : Ref sig .scVector := ⟨.hbm, 12, rfl⟩
abbrev main_v10_scv : Ref sig .scVector := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg2_1 : Ref sig .tc := ⟨.vmem, 9, rfl⟩
abbrev cc2_stg3_0 : Ref sig .tc := ⟨.vmem, 10, rfl⟩
abbrev cc2_stg3_1 : Ref sig .tc := ⟨.vmem, 11, rfl⟩
abbrev cc2_stg4_0 : Ref sig .tc := ⟨.vmem, 12, rfl⟩
abbrev cc2_stg4_1 : Ref sig .tc := ⟨.vmem, 13, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 9
abbrev cc2_sem1_0 : DmaSem sig := 10
abbrev cc2_sem2_0 : DmaSem sig := 11
abbrev cc2_sem2_1 : DmaSem sig := 12
abbrev cc2_sem3_0 : DmaSem sig := 13
abbrev cc2_sem3_1 : DmaSem sig := 14
abbrev cc2_sem4_0 : DmaSem sig := 15
abbrev cc2_sem4_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c49_i32 : BitVec 32 := 49#32
  let v0 : BitVec 32 := Scalar.addi arg0 c49_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_3_r1 : BitVec 32 := 0#32
  ![v2.toNat, 0]
abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S512x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S64x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x16 : Shape := ⟨2, ![32, 16]⟩
abbrev S100000x64 : Shape := ⟨2, ![100000, 64]⟩
abbrev S100000 : Shape := ⟨1, ![100000]⟩
abbrev S_ : Shape := ⟨0, ![]⟩
abbrev S32x16x1 : Shape := ⟨3, ![32, 16, 1]⟩
abbrev S1 : Shape := ⟨1, ![1]⟩
abbrev S1x1x1 : Shape := ⟨3, ![1, 1, 1]⟩
abbrev S32x16x64 : Shape := ⟨3, ![32, 16, 64]⟩
abbrev S32x16x100000 : Shape := ⟨3, ![32, 16, 100000]⟩
abbrev S1x1x100000 : Shape := ⟨3, ![1, 1, 100000]⟩

abbrev nBuf : Space → Nat
  | .hbm => 32
  | .vmem => 0
  | .smem => 0
  | _ => 0

abbrev bufTy : (tb : Table) → Fin (tcTables nBuf tb) → BufTy
  | .hbm, ⟨0, _⟩ => ⟨S32x16, .i32⟩
  | .hbm, ⟨1, _⟩ => ⟨S32x16, .i32⟩
  | .hbm, ⟨2, _⟩ => ⟨S100000x64, .f32⟩
  | .hbm, ⟨3, _⟩ => ⟨S100000x64, .f32⟩
  | .hbm, ⟨4, _⟩ => ⟨S100000, .f32⟩
  | .hbm, ⟨5, _⟩ => ⟨S_, .i32⟩
  | .hbm, ⟨6, _⟩ => ⟨S32x16, .i32⟩
  | .hbm, ⟨7, _⟩ => ⟨S32x16, .i1⟩
  | .hbm, ⟨8, _⟩ => ⟨S_, .i32⟩
  | .hbm, ⟨9, _⟩ => ⟨S32x16, .i32⟩
  | .hbm, ⟨10, _⟩ => ⟨S32x16, .i32⟩
  | .hbm, ⟨11, _⟩ => ⟨S32x16, .i32⟩
  | .hbm, ⟨12, _⟩ => ⟨S32x16x1, .i32⟩
  | .hbm, ⟨13, _⟩ => ⟨S1, .i32⟩
  | .hbm, ⟨14, _⟩ => ⟨S_, .i32⟩
  | .hbm, ⟨15, _⟩ => ⟨S32x16x1, .i32⟩
  | .hbm, ⟨16, _⟩ => ⟨S32x16x1, .i1⟩
  | .hbm, ⟨17, _⟩ => ⟨S1x1x1, .i32⟩
  | .hbm, ⟨18, _⟩ => ⟨S32x16x1, .i32⟩
  | .hbm, ⟨19, _⟩ => ⟨S32x16x1, .i1⟩
  | .hbm, ⟨20, _⟩ => ⟨S32x16x1, .i1⟩
  | .hbm, ⟨21, _⟩ => ⟨S_, .i1⟩
  | .hbm, ⟨22, _⟩ => ⟨S32x16, .i1⟩
  | .hbm, ⟨23, _⟩ => ⟨S32x16x64, .f32⟩
  | .hbm, ⟨24, _⟩ => ⟨S32x16x64, .i1⟩
  | .hbm, ⟨25, _⟩ => ⟨S_, .f32⟩
  | .hbm, ⟨26, _⟩ => ⟨S32x16x64, .f32⟩
  | .hbm, ⟨27, _⟩ => ⟨S32x16x64, .f32⟩
  | .hbm, ⟨28, _⟩ => ⟨S32x16x100000, .f32⟩
  | .hbm, ⟨29, _⟩ => ⟨S1x1x100000, .f32⟩
  | .hbm, ⟨30, _⟩ => ⟨S32x16x100000, .f32⟩
  | .hbm, ⟨31, _⟩ => ⟨S32x16x100000, .f32⟩
  | _, _ => ⟨S32x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩

abbrev nD : Nat := 1
abbrev τ : Topo := Topo.v7x

variable {F : FTy → Type} [FloatOps F]
-- ==== Proof.Common.lean ====
/-
  What every module of the proof shares: the program as the launch of a SparseCore call beside two pipelines sees it, the
  ghost state, and the buffers that the claims speak of.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program and its calls -/

/-- The labels under the SparseCore's: the two pipelines' and their kernels'. -/
abbrev ΛP : Labels := Pipeline.Sig Λ₀ (Fin 2) fun p => (pcfgs (F := F) p).Adm
/-- The SparseCore calls of the program. -/
abbrev K [FloatOps F] : SparseCore.Cfg τ sig (ΛP (F := F)) 1 := sc (F := F)
/-- The table of the pipelines and their kernels. -/
abbrev D [FloatOps F] : Defs nD τ sig (Elt F) (ΛP (F := F)) := Pipeline.defs pcfgs defs₀
abbrev 𝒱₀ : Variants := Variants.none
/-- The pipelines' variants: the kernels' own, and the loop's. -/
abbrev 𝒱 : Variants := 𝒱₀.lift
abbrev v₀ : 𝒱.V := Sum.inl none

theorem nSub_zero [FloatOps F] : (K (F := F)).nSub 0 = 16 := rfl
theorem nCore_zero [FloatOps F] : (K (F := F)).nCore 0 = 2 := rfl

/-- The call's semaphores are apart from each other and from every kernel's own. -/
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The SparseCore hand-over's rounds, the pipelines' rounds, and the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipelines' rounds inside the second component. -/
def EP : Emb UP (MT nD τ sig (HIx 1) (Elt F) ℕ UU ℕ) := (Emb.inl).trans embR
instance EP_landsIn : (EP (F := F)).LandsIn (upEmb : UEmb _ 𝕄) := by unfold EP; infer_instance

/-! ## The buffers -/

/-- The packed table's, the row numbers', the gathered rows' buffer on device `d`. -/
abbrev tLoc (d : Dev nD) : Loc nD τ sig := (SparseCore.T d).loc main_v9
abbrev iLoc (d : Dev nD) : Loc nD τ sig := (SparseCore.T d).loc main_v5
abbrev oLoc (d : Dev nD) : Loc nD τ sig := (SparseCore.T d).loc main_v10

end Cert.Proof.Lookup

end
-- ==== Proof.Tile.lean ====
/-
  The SparseCore call: thirty-two tasks, one on each tile of two SparseCores. Task `(c, i)` fetches sixteen row numbers from
  `main_v5`, gathers those rows of the packed table `main_v9` into its scratch, and copies the rows out to its block of
  `main_v10`. The task is proved once, at a symbolic pair `(c, i)`; its post says what each element of its block is.
-/
module

public import proofs.«01_k».proof.Proof.Common

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The task's blocks -/

/-- The grid point of task `(c, i)`. -/
def coordsV (c : Fin (grid1.bound 0)) (s : Fin (grid1.bound 1)) : grid1.Coords :=
  fun | 0 => c | 1 => s | ⟨_ + 2, h⟩ => absurd h (Nat.not_lt.2 (Nat.le_add_left _ _))

abbrev cV (L : grid1.Coords) : Fin τ.nSC := (L 0).castLE hcore1
abbrev jV (L : grid1.Coords) : Fin τ.nSub := (L 1).castLE hsub1

/-- The sixteen row numbers of the task at `L`, its block of the gathered rows, and all of the packed table. -/
abbrev irowK (L : grid1.Coords) : Rect S512 := Rect.unit (s := S512) (k1_off1 L) S16.size (k1_off1_inb L)
abbrev orowK (L : grid1.Coords) : Rect S512x128 := Rect.unit (s := S512x128) (k1_off2 L) S16x128.size (k1_off2_inb L)
abbrev iRowK (L : grid1.Coords) : Memref sig .scVector .hbm S16 .i32 := (Memref.whole main_v5_scv : Memref sig .scVector .hbm S512 .i32).slice (irowK L) (fun _ => rfl)
abbrev oRowK (L : grid1.Coords) : Memref sig .scVector .hbm S16x128 .f32 := (Memref.whole main_v10_scv : Memref sig .scVector .hbm S512x128 .f32).slice (orowK L) (fun _ => rfl)
abbrev tAllK : Memref sig .scVector .hbm S50176x128 .f32 := (Memref.whole main_v9_scv : Memref sig .scVector .hbm S50176x128 .f32).slice (Rect.unit (s := S50176x128) ![0, 0] S50176x128.size inb_S50176x128_S50176x128_0_0) (fun _ => rfl)

/-- The elements of the block of task `L`. -/
abbrev oRowSet (L : grid1.Coords) : Finset S512x128.Idx := (oRowK L).view.set

/-- The share of the table and of the row numbers that task `(c, i)` reads through. -/
def tileShare (L : grid1.Coords) : PosShare TreeShare := Transfers.shareTok (Transfers.shareTok fullShare 2 (L 0)) 16 (L 1)

section Task

variable (ix : (d : Dev nD) → Buf (Elt F) (iLoc d)) (TO : (d : Dev nD) → Buf (Elt F) (tLoc d) → Prop)

/-- What the launch needs of the row numbers: each names a row of the packed table. -/
def RowsInRange : Prop := ∀ (d : Dev nD) (z : S512.Idx), (ix d z : BitVec 32).toNat < 50176

/-- The element `x` of the gathered rows is the packed table's element in the same column of the row that the row number
    of `x`'s row names. -/
def GatheredAt (d : Dev nD) (T : Buf (Elt F) (tLoc d)) (f : Buf (Elt F) (oLoc d)) (x : S512x128.Idx) : Prop :=
  ∀ (z : S512.Idx) (y : S50176x128.Idx), (z 0).val = (x 0).val → (y 0).val = (ix d z : BitVec 32).toNat → (y 1).val = (x 1).val → f x = T y

/-- The block of task `L` holds the rows that a packed table satisfying `TO` has at the task's row numbers. -/
def BlockOK (d : Dev nD) (L : grid1.Coords) (f : Buf (Elt F) (oLoc d)) : Prop :=
  ∃ T, TO d T ∧ ∀ x ∈ oRowSet L, GatheredAt ix d T f x

/-- What task `L` is given: a share of some packed table satisfying `TO`, a share of the row numbers, and its block. -/
def goP (d : Dev nD) (L : grid1.Coords) : sProp 𝕄 :=
  iprop((∃ T, ⌜TO d T⌝ ∗ tLoc d ↦{tileShare L} T) ∗ (iLoc d ↦{tileShare L} ix d) ∗ ∃ f, oLoc d ↦[oRowSet L]{fullShare} f)

/-- What it leaves: its block, gathered. -/
def tdP (d : Dev nD) (L : grid1.Coords) : sProp 𝕄 :=
  iprop(∃ f, ⌜BlockOK ix TO d L f⌝ ∗ oLoc d ↦[oRowSet L]{fullShare} f)

variable (d : Dev nD) (L : grid1.Coords)

omit [FloatOps F] in
theorem pts_tV (q : PosShare TreeShare) (f : Buf (Elt F) (tLoc d)) :
    ((Memref.whole main_v9_scv : Memref sig .scVector .hbm S50176x128 .f32).view.loc (V d (cV L) (jV L)) ↦{q} f : sProp 𝕄) = tLoc d ↦{q} f := rfl
omit [FloatOps F] in
theorem pts_iV (q : PosShare TreeShare) (f : Buf (Elt F) (iLoc d)) :
    ((Memref.whole main_v5_scv : Memref sig .scVector .hbm S512 .i32).view.loc (V d (cV L) (jV L)) ↦{q} f : sProp 𝕄) = iLoc d ↦{q} f := rfl
omit [FloatOps F] in
theorem pts_sV (f : Buf (Elt F) ((V d (cV L) (jV L)).loc cc1_scratch0)) :
    ((Memref.whole cc1_scratch0 : Memref sig .scVector .vmem S16 .i32).view.loc (V d (cV L) (jV L)) ↦{fullShare} f : sProp 𝕄) = (V d (cV L) (jV L)).loc cc1_scratch0 ↦{fullShare} f := rfl
omit [FloatOps F] in
theorem pts_rV (f : Buf (Elt F) ((V d (cV L) (jV L)).loc cc1_scratch1)) :
    ((Memref.whole cc1_scratch1 : Memref sig .scVector .vmem S16x128 .f32).view.loc (V d (cV L) (jV L)) ↦{fullShare} f : sProp 𝕄) = (V d (cV L) (jV L)).loc cc1_scratch1 ↦{fullShare} f := rfl
omit [FloatOps F] in
theorem pts_oRowK (f : Buf (Elt F) (oLoc d)) :
    ((oRowK L).view.loc (V d (cV L) (jV L)) ↦[(oRowK L).view.set]{fullShare} f : sProp 𝕄) = oLoc d ↦[oRowSet L]{fullShare} f := rfl

/-! ## The tile's own semaphores and scratch -/

abbrev cellA (d : Dev nD) (c : Fin τ.nSC) (i : Fin τ.nSub) : GSem nD τ sig := (V d c i, .dma cc1_scoped0.sem)
abbrev cellB (d : Dev nD) (c : Fin τ.nSC) (i : Fin τ.nSub) : GSem nD τ sig := (V d c i, .dma cc1_scratch2.sem)
abbrev cellC (d : Dev nD) (c : Fin τ.nSC) (i : Fin τ.nSub) : GSem nD τ sig := (V d c i, .dma cc1_scoped1.sem)

/-- The three semaphores that the task waits on are among the tile's own. -/
theorem ownSems0_V :
    (ownSems0 (V d (cV L) (jV L)) : sProp 𝕄)
      = iprop(semVal (cellA d (cV L) (jV L)) 0 ∗ semVal (cellB d (cV L) (jV L)) 0 ∗ semVal (cellC d (cV L) (jV L)) 0
          ∗ bigSep ((((ownCells (V d (cV L) (jV L))).erase (cellA d (cV L) (jV L))).erase (cellB d (cV L) (jV L))).erase (cellC d (cV L) (jV L))) fun g => semVal g 0) := by
  have hA : cellA d (cV L) (jV L) ∈ ownCells (V d (cV L) (jV L)) := mem_ownCells.mpr ⟨rfl, by
    show (SemLoc.dma cc1_scoped0.sem : SemLoc sig).isScoped .scVector = true; decide⟩
  have hB : cellB d (cV L) (jV L) ∈ ownCells (V d (cV L) (jV L)) := mem_ownCells.mpr ⟨rfl, by
    show (SemLoc.dma cc1_scratch2.sem : SemLoc sig).isScoped .scVector = true; decide⟩
  have hC : cellC d (cV L) (jV L) ∈ ownCells (V d (cV L) (jV L)) := mem_ownCells.mpr ⟨rfl, by
    show (SemLoc.dma cc1_scoped1.sem : SemLoc sig).isScoped .scVector = true; decide⟩
  have nBA : cellB d (cV L) (jV L) ≠ cellA d (cV L) (jV L) := by simp [cellA, cellB]; decide
  have nCA : cellC d (cV L) (jV L) ≠ cellA d (cV L) (jV L) := by simp [cellA, cellC]; decide
  have nCB : cellC d (cV L) (jV L) ≠ cellB d (cV L) (jV L) := by simp [cellB, cellC]; decide
  unfold SparseCore.Cfg.ownSems0
  rw [SparseCore.bigSep_erase' hA, SparseCore.bigSep_erase' (Finset.mem_erase.mpr ⟨nBA, hB⟩),
    SparseCore.bigSep_erase' (Finset.mem_erase.mpr ⟨nCB, Finset.mem_erase.mpr ⟨nCA, hC⟩⟩)]

/-- The two scratch buffers are among the tile's own. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  have h0 := SparseCore.Cfg.mem_ownRefs_of_owner (p := Proc.scVector (cV L) (jV L)) (b := (Proc.scVector (cV L) (jV L)).devRef cc1_scratch0) rfl
  have h1 := SparseCore.Cfg.mem_ownRefs_of_owner (p := Proc.scVector (cV L) (jV L)) (b := (Proc.scVector (cV L) (jV L)).devRef cc1_scratch1) rfl
  have ne : (Proc.scVector (cV L) (jV L)).devRef cc1_scratch1 ≠ (Proc.scVector (cV L) (jV L)).devRef cc1_scratch0 := fun e =>
    absurd (Proc.devRef_injective _ e) (show (cc1_scratch1 : Ref sig .scVector) ≠ cc1_scratch0 by decide)
  unfold SparseCore.Cfg.ownBufs
  refine (SparseCore.bigSep_erase' h0).trans ?_
  rw [SparseCore.bigSep_erase' (Finset.mem_erase.mpr ⟨ne, h1⟩)]

/-! ## The task -/

/-- What the fetch of the row numbers lands in the scratch, read back: row number `16 · (2 i + c) + k` at `k`. -/
theorem fetched_ids (fs : Buf (Elt F) ((V d (cV L) (jV L)).loc cc1_scratch0)) (k : S16.Idx) :
    (Memref.whole cc1_scratch0 : Memref sig .scVector .vmem S16 .i32).view.read (Elt F) (View.write (Elt F) (Memref.whole cc1_scratch0 : Memref sig .scVector .vmem S16 .i32).view fs ((iRowK L).view.read (Elt F) (ix d)) Finset.univ) k = ix d ((irowK L).emb k) := by
  rw [View.write_whole_univ]
  simp only [Memref.view_whole, View.read_whole]
  exact (View.read_apply _ _).trans (cast_eq _ _)

theorem ids_inb (hR : RowsInRange ix) (fs : Buf (Elt F) ((V d (cV L) (jV L)).loc cc1_scratch0)) (pay : S16.Idx → Elt F .i32)
    (hpay : pay = (iRowK L).view.read (Elt F) (ix d)) :
    ∀ x, ((Memref.whole cc1_scratch0 : Memref sig .scVector .vmem S16 .i32).view.read (Elt F) (View.write (Elt F) (Memref.whole cc1_scratch0 : Memref sig .scVector .vmem S16 .i32).view fs pay Finset.univ) x).toNat < S50176x128.size gathers_S50176x128_S16x128.axis := by
  subst hpay; intro x
  rw [fetched_ids]
  exact hR d _

/-- Element `p` of the rows that the gather lands, read back, is the packed table's element in `p`'s column of the row
    that the task's row number at `p`'s row names. -/
theorem gathered_elt (hR : RowsInRange ix) (Tb : Buf (Elt F) (tLoc d)) (fs : Buf (Elt F) ((V d (cV L) (jV L)).loc cc1_scratch0))
    (fr : Buf (Elt F) ((V d (cV L) (jV L)).loc cc1_scratch1)) (p : S16x128.Idx) (z : S512.Idx) (y : S50176x128.Idx)
    (hz : (z 0).val = ((oRowK L).view.emb p 0).val) (hy0 : (y 0).val = (ix d z : BitVec 32).toNat) (hy1 : (y 1).val = ((oRowK L).view.emb p 1).val)
    (hn : S16.numel = S16x128.size gathers_S50176x128_S16x128.axis')
    (hin : ∀ x, ((Memref.whole cc1_scratch0 : Memref sig .scVector .vmem S16 .i32).view.read (Elt F) (View.write (Elt F) (Memref.whole cc1_scratch0 : Memref sig .scVector .vmem S16 .i32).view fs ((iRowK L).view.read (Elt F) (ix d)) Finset.univ) x).toNat
      < S50176x128.size gathers_S50176x128_S16x128.axis) :
    (ReadAs.same : ReadAs (Elt F) S16x128 .f32 S16x128 .f32).apply ((Memref.whole cc1_scratch1 : Memref sig .scVector .vmem S16x128 .f32).view.read (Elt F) (View.write (Elt F) (Memref.whole cc1_scratch1 : Memref sig .scVector .vmem S16x128 .f32).view fr
      (SparseCore.gatherPayload gathers_S50176x128_S16x128 ((tAllK).view.read (Elt F) Tb)
        (SparseCore.rows ((Memref.whole cc1_scratch0 : Memref sig .scVector .vmem S16 .i32).view.read (Elt F) (View.write (Elt F) (Memref.whole cc1_scratch0 : Memref sig .scVector .vmem S16 .i32).view fs ((iRowK L).view.read (Elt F) (ix d)) Finset.univ))
          hn hin)) Finset.univ)) p = Tb y := by
  rw [ReadAs.apply_same, View.write_whole_univ]
  simp only [Memref.view_whole, View.read_whole]
  unfold SparseCore.gatherPayload
  refine ((View.read_apply _ _).trans (cast_eq _ _)).trans (congrArg Tb ?_)
  have hk : ∀ n : Fin S16.numel, ((S16.rowMajor.symm n) 0).val = n.val := fun n => by
    rw [← Shape.rowMajor_val_one, Equiv.apply_symm_apply]
  have hb0 : ((oRowK L).view.emb p 0).val = 32 * (L 1).val + 16 * (L 0).val + (p 0).val := by
    show k1_off2 L 0 + 1 * (p 0).val = _
    rw [k1_off2_eq, Nat.one_mul]; rfl
  have hb1 : ((oRowK L).view.emb p 1).val = (p 1).val := by
    show k1_off2 L 1 + 1 * (p 1).val = _
    rw [k1_off2_eq, Nat.one_mul]; exact Nat.zero_add _
  funext a
  apply Fin.ext
  match a with
  | 0 =>
    rw [hy0]
    show 0 + 1 * (gathers_S50176x128_S16x128.idx _ p gathers_S50176x128_S16x128.axis).val = _
    rw [Shape.Gathers.idx_axis, Nat.zero_add, Nat.one_mul]
    unfold SparseCore.rows
    have hzk : z = (irowK L).emb (S16.rowMajor.symm ((p gathers_S50176x128_S16x128.axis').cast hn.symm)) := by
      funext b
      apply Fin.ext
      match b with
      | 0 =>
        rw [hz, hb0]
        show _ = k1_off1 L 0 + 1 * (S16.rowMajor.symm _ 0).val
        rw [hk, k1_off1_eq, Nat.one_mul]; rfl
    rw [hzk]
    exact congrArg BitVec.toNat (fetched_ids ix d L fs _)
  | 1 =>
    rw [hy1, hb1]
    show 0 + 1 * (gathers_S50176x128_S16x128.idx _ p 1).val = _
    rw [Shape.Gathers.idx_of_ne _ _ _ _ (by decide), Nat.zero_add, Nat.one_mul]; rfl

set_option maxHeartbeats 4000000 in
/-- The task at `L`: the fetch of its row numbers, the gather, the copy out. -/
theorem tile_body (hR : RowsInRange ix) (O : CellTallies nD τ sig (HIx 1)) (W : Waits sig (HIx 1)) (hO : ∀ g, O g none = 0) :
    iprop(levAts (K (F := F)).L (K (F := F)).lev ∗ emp ∗ goP ix TO d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_kernel L (Memref.whole main_v9_scv : Memref sig .scVector .hbm S50176x128 .f32) (Memref.isWhole_whole _) (Memref.whole main_v5_scv : Memref sig .scVector .hbm S512 .i32) (Memref.isWhole_whole _) (Memref.whole main_v10_scv : Memref sig .scVector .hbm S512x128 .f32) (Memref.isWhole_whole _)
            (Memref.whole cc1_scratch0 : Memref sig .scVector .vmem S16 .i32) (Memref.isWhole_whole _) (Memref.whole cc1_scratch1 : Memref sig .scVector .vmem S16x128 .f32) (Memref.isWhole_whole _) cc1_scratch2 cc1_scoped0 cc1_scoped1)
          fun _ => iprop(tdP ix TO d L
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_kernel_eq_skeleton]; unfold cc1_gather_kernel_skel goP
  rw [(K (F := F)).scopedBufs_V facts d (cV L) (jV L), SparseCore.Cfg.scopedSems0_V (Val := Elt F) d (cV L) (jV L), ownSems0_V, ownBufs_V]
  iintro ⟨#Hlv, -, ⟨⟨%Tb, %hT, Ht⟩, Hi, ⟨%fo, Ho⟩⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave Ho' := (Entails.of_eq (pts_oRowK (F := F) d L _).symm) $$ Ho
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  sl_exec
  have hN : ∀ h : S50176x128.Gathers 0 S16x128, ∑ j, ((Memref.whole cc1_scratch1 : Memref sig .scVector .vmem S16x128 .f32).slice (S16x128.rowRect h.axis' j) (S16x128.stride_rowRect h.axis' j)).view.dmaCredit
      = (Memref.whole cc1_scratch1 : Memref sig .scVector .vmem S16x128 .f32).view.dmaCredit := by decide
  iapply (SparseCore.wp_gatherFromWhole countersEmb 𝒱₀ (V d (cV L) (jV L)) none (src := tAllK) (hg := gathers_S50176x128_S16x128) (default : HIx 1)
      (Memref.whole cc1_scratch1 : Memref sig .scVector .vmem S16x128 .f32).view.dmaCredit (hN _) (by decide) (ids_inb ix d L hR fs _ rfl)) $$ [Ht' Hr' Hs' HsemB]
  · isplitl [Ht']; · iexact Ht'
    isplitl [Hr']; · iexact Hr'
    isplitl [Hs']; · iexact Hs'
    iexact HsemB
  iintro Hfl
  sl_exec
  iapply (Transfers.wp_waitLocalO countersEmb 𝒱₀ (V d (cV L) (jV L)) none (default : HIx 1) (rfl : (Memref.whole cc1_scratch1 : Memref sig .scVector .vmem S16x128 .f32).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Ht', Hs'⟩, HsemB, HO⟩
  sl_exec
  sl_step
  isplitl [Ho']
  · unfold tdP
    iexists _; isplitr
    swap; · iapply (Entails.of_eq (pts_oRowK (F := F) d L _)); iexact Ho'
    ipureintro
    refine ⟨Tb, hT, fun x hx => ?_⟩
    intro z y hz hy0 hy1
    obtain ⟨p, -, rfl⟩ := Finset.mem_map.mp hx
    refine ((View.read_apply _ _).trans (cast_eq _ _)).symm.trans
      ((congrFun (View.read_writes_whole (oRowK L).view fo (tile_body.sl.dma0_1 ix d L hR Tb fs fr)) p).trans ?_)
    unfold tile_body.sl.dma0_1
    exact gathered_elt ix d L hR Tb fs fr p z y hz hy0 hy1 _ _
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The call -/

omit [FloatOps F] in
/-- A wait that the task recorded under no call is one recorded under no call or under this one. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') :=
  sep_mono_right (sep_mono_right (sep_mono_right (by
    iintro ⟨%W', %h, HO⟩
    iexists W'; isplitr
    · ipureintro; exact fun p hp => (h p hp).imp_right Or.inl
    · iexact HO)))

/-- What the call hands over: the tasks' pieces, already cut, to each SparseCore all its tiles'. -/
def P : (K (F := F)).Pay (nD := nD) (Val := Elt F) (Name := ℕ) (U := UU) where
  st := fun q d c => match q with | 0 => bigSep Finset.univ fun i : Fin (grid1.bound 1) => goP ix TO d (coordsV c i)
  dn := fun q d c => match q with | 0 => bigSep Finset.univ fun i : Fin (grid1.bound 1) => tdP ix TO d (coordsV c i)
  go := fun q d c i => match q with | 0 => goP ix TO d (coordsV c i)
  td := fun q d c i => match q with | 0 => tdP ix TO d (coordsV c i)
  x := fun _ _ => iprop(emp)

instance goP_storable : BI.Storable (upEmb : UEmb _ 𝕄) (goP ix TO d L) := by unfold goP; infer_instance
instance tdP_storable : BI.Storable (upEmb : UEmb _ 𝕄) (tdP ix TO d L) := by unfold tdP; infer_instance

instance P_storable : (P ix TO).IsStorable where
  st q d c := match q with
    | 0 => (inferInstance : BI.Storable (upEmb : UEmb _ 𝕄) (bigSep Finset.univ fun i : Fin (grid1.bound 1) => goP ix TO d (coordsV c i)))
  dn q d c := match q with
    | 0 => (inferInstance : BI.Storable (upEmb : UEmb _ 𝕄) (bigSep Finset.univ fun i : Fin (grid1.bound 1) => tdP ix TO d (coordsV c i)))
  go q d c i := match q with | 0 => goP_storable ix TO d (coordsV c i)
  td q d c i := match q with | 0 => tdP_storable ix TO d (coordsV c i)

theorem defs₀_vector (c : Fin τ.nSC) (s : Fin τ.nSub) :
    defs₀ (F := F) (.scVector c s) 1 ()
      = SparseCore.onTile hcore1 hsub1 (fun c s => cc1_gather_kernel (coordsV c s)
          (Memref.whole main_v9_scv : Memref sig .scVector .hbm S50176x128 .f32) (Memref.isWhole_whole _) (Memref.whole main_v5_scv : Memref sig .scVector .hbm S512 .i32) (Memref.isWhole_whole _) (Memref.whole main_v10_scv : Memref sig .scVector .hbm S512x128 .f32) (Memref.isWhole_whole _)
          (Memref.whole cc1_scratch0 : Memref sig .scVector .vmem S16 .i32) (Memref.isWhole_whole _) (Memref.whole cc1_scratch1 : Memref sig .scVector .vmem S16x128 .f32) (Memref.isWhole_whole _) cc1_scratch2 cc1_scoped0 cc1_scoped1) ⟨⟩ c s := rfl

set_option maxRecDepth 16384 in
/-- Every tile runs its task. -/
theorem tileObl (hR : RowsInRange ix) : (K (F := F)).TileObl (D (F := F)) 𝒱 (P ix TO) v₀ 0 := by
  intro d c i O W hO _ _
  simp only [show (P ix TO).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body ix TO d (coordsV ⟨_, hci.1⟩ ⟨_, hci.2⟩) hR O W hO).trans (wp_mono frame _ _ fun _ => waits_weaken)

/-- The pieces are handed over cut, and come back cut. -/
theorem vecSplit : (K (F := F)).VecSplit' (P ix TO) 0 := by
  intro d c
  show (bigSep Finset.univ fun i : Fin (grid1.bound 1) => goP ix TO d (coordsV c i)) ⊢ |={Set.univ}=> iprop(
      (bigSep Finset.univ fun i : Fin (grid1.bound 1) => goP ix TO d (coordsV c i))
      ∗ ((bigSep Finset.univ fun i : Fin (grid1.bound 1) => tdP ix TO d (coordsV c i))
          -∗ bigSep Finset.univ fun i : Fin (grid1.bound 1) => tdP ix TO d (coordsV c i)))
  iintro H; imodintro
  isplitl [H]; · iexact H
  iintro H; iexact H

end Task

end Cert.Proof.Lookup

end
-- ==== Proof.Split.lean ====
/-
  The SparseCore call's operands cut into the thirty-two tasks' pieces, and the tasks' blocks joined into the gathered rows:
  the packed table and the row numbers go out as read shares, the rows of the result as disjoint blocks that cover it.
-/
module

public import proofs.«01_k».proof.Proof.Tile

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The tasks: a SparseCore and a tile. -/
abbrev Tasks : Type := Fin (grid1.bound 0) × Fin (grid1.bound 1)
/-- The elements of a task's block. -/
abbrev taskSet (t : Tasks) : Finset S512x128.Idx := oRowSet (coordsV t.1 t.2)

theorem mem_taskSet (t : Tasks) (x : S512x128.Idx) :
    x ∈ taskSet t ↔ 32 * t.2.val + 16 * t.1.val ≤ (x 0).val ∧ (x 0).val < 32 * t.2.val + 16 * t.1.val + 16 := by
  show x ∈ ((View.whole (main_v10_scv : Ref sig .scVector)).slice (orowK (coordsV t.1 t.2))).set ↔ _
  rw [View.set_slice_whole]
  refine Rect.mem_set_unit.trans ?_
  rw [k1_off2_eq]
  constructor
  · intro h; exact h 0
  · intro h a
    match a with
    | 0 => exact h
    | 1 => exact ⟨Nat.zero_le _, by have h1 : (x 1).val < 128 := (x 1).isLt; show (x 1).val < 0 + 128; omega⟩

theorem taskSet_disjoint : ∀ t ∈ (Finset.univ : Finset Tasks), ∀ t' ∈ (Finset.univ : Finset Tasks), t ≠ t' → Disjoint (taskSet t) (taskSet t') := by
  intro t _ t' _ hne
  rw [Finset.disjoint_left]
  intro x h h'
  rw [mem_taskSet] at h h'
  obtain ⟨c, i⟩ := t; obtain ⟨c', i'⟩ := t'
  have hc : c.val < 2 := c.isLt
  have hc' : c'.val < 2 := c'.isLt
  simp only at h h'
  exact hne (Prod.ext (Fin.ext (by show c.val = c'.val; omega)) (Fin.ext (by show i.val = i'.val; omega)))

theorem taskSet_cover : (Finset.univ : Finset Tasks).biUnion taskSet = Finset.univ := by
  ext x
  simp only [Finset.mem_biUnion, Finset.mem_univ, true_and, iff_true]
  have hx : (x 0).val < 512 := (x 0).isLt
  refine ⟨(⟨(x 0).val / 16 % 2, by show _ < 2; omega⟩, ⟨(x 0).val / 32, by show _ < 16; omega⟩), ?_⟩
  rw [mem_taskSet]
  show 32 * ((x 0).val / 32) + 16 * ((x 0).val / 16 % 2) ≤ _ ∧ _ < 32 * ((x 0).val / 32) + 16 * ((x 0).val / 16 % 2) + 16
  omega

section

variable (ix : (d : Dev nD) → Buf (Elt F) (iLoc d)) (TO : (d : Dev nD) → Buf (Elt F) (tLoc d) → Prop) (d : Dev nD)

omit [FloatOps F] in
/-- A buffer held outright is a read share of it for every task (and a rest, let go). -/
theorem shares {ℓ : Loc nD τ sig} (f : Buf (Elt F) ℓ) :
    (ℓ ↦{fullShare} f : sProp 𝕄) ⊢ bigSep Finset.univ fun t : Tasks => ℓ ↦{tileShare (coordsV t.1 t.2)} f := by
  rw [bigSep_univ_prod]
  refine (Transfers.pointsTo_toks_split fullShare 2).trans (sep_elim_right.trans (bigSep_mono fun c _ => ?_))
  exact (Transfers.pointsTo_toks_split _ 16).trans sep_elim_right

omit [FloatOps F] in
/-- The gathered rows held outright are the tasks' blocks. -/
theorem blocks (f : Buf (Elt F) (oLoc d)) :
    (oLoc d ↦{fullShare} f : sProp 𝕄) = bigSep Finset.univ fun t : Tasks => oLoc d ↦[taskSet t]{fullShare} f := by
  rw [← pointsTo_biUnion Finset.univ (ℓ := oLoc d) taskSet taskSet_disjoint, taskSet_cover]; try rfl

theorem handed : (bigSep Finset.univ fun c : Fin ((K (F := F)).nCore 0) => (P ix TO).st 0 d c)
    = bigSep Finset.univ fun t : Tasks => goP ix TO d (coordsV t.1 t.2) :=
  (bigSep_univ_prod (fun t : Tasks => goP ix TO d (coordsV t.1 t.2))).symm

theorem handedBack : (bigSep Finset.univ fun c : Fin ((K (F := F)).nCore 0) => (P ix TO).dn 0 d c)
    = bigSep Finset.univ fun t : Tasks => tdP ix TO d (coordsV t.1 t.2) :=
  (bigSep_univ_prod (fun t : Tasks => tdP ix TO d (coordsV t.1 t.2))).symm

/-- The call's operands are what the call hands over. -/
theorem split (Tb : Buf (Elt F) (tLoc d)) (hT : TO d Tb) (f : Buf (Elt F) (oLoc d)) :
    iprop((tLoc d ↦{fullShare} Tb) ∗ (iLoc d ↦{fullShare} ix d) ∗ oLoc d ↦{fullShare} f)
      ⊢ bigSep Finset.univ fun c : Fin ((K (F := F)).nCore 0) => (P ix TO).st 0 d c := by
  rw [handed, blocks]
  refine (BIClass.sep_mono (shares Tb) (sep_mono_left (shares (ix d)))).trans ?_
  rw [← bigSep_sep', ← bigSep_sep']
  refine bigSep_mono fun t _ => ?_
  show iprop((tLoc d ↦{tileShare (coordsV t.1 t.2)} Tb) ∗ (iLoc d ↦{tileShare (coordsV t.1 t.2)} ix d) ∗ oLoc d ↦[taskSet t]{fullShare} f)
    ⊢ goP ix TO d (coordsV t.1 t.2)
  unfold goP
  iintro ⟨Ht, Hi, Ho⟩
  isplitl [Ht]
  · iexists Tb; isplitr
    · ipureintro; exact hT
    · iexact Ht
  isplitl [Hi]; · iexact Hi
  iexists f; iexact Ho

/-- What the tasks leave is the gathered rows, each element from some packed table satisfying `TO`. -/
theorem join :
    (bigSep Finset.univ fun c : Fin ((K (F := F)).nCore 0) => (P ix TO).dn 0 d c)
      ⊢ (iprop(∃ f, ⌜∀ x, ∃ Tb, TO d Tb ∧ GatheredAt ix d Tb f x⌝ ∗ oLoc d ↦{fullShare} f) : sProp 𝕄) := by
  rw [handedBack]
  unfold tdP
  have hne : Nonempty (Buf (Elt F) (oLoc d)) := ⟨fun _ => (Scalar.ofBits .f32 0#32 : F .f32)⟩
  refine (bigSep_exists_pi Finset.univ (fun (t : Tasks) (f : Buf (Elt F) (oLoc d)) =>
    iprop(⌜BlockOK ix TO d (coordsV t.1 t.2) f⌝ ∗ oLoc d ↦[taskSet t]{fullShare} f))).trans ?_
  iintro ⟨%fs, H⟩
  ihave H := (bigSep_pure_sep Finset.univ (fun t : Tasks => BlockOK ix TO d (coordsV t.1 t.2) (fs t))
    (fun t => oLoc d ↦[taskSet t]{fullShare} fs t)) $$ H
  icases H with ⟨%hfs, H⟩
  ihave H := (pointsTo_biUnion_join (ℓ := oLoc d) (q := fullShare) (Val := Elt F) Finset.univ taskSet fs hne.some taskSet_disjoint) $$ H
  icases H with ⟨%g, %hg, H⟩
  rw [taskSet_cover]
  iexists g; isplitr
  · ipureintro
    intro x
    obtain ⟨t, -, hx⟩ := Finset.mem_biUnion.mp (taskSet_cover ▸ Finset.mem_univ x : x ∈ (Finset.univ : Finset Tasks).biUnion taskSet)
    obtain ⟨Tb, hT, hb⟩ := hfs t (Finset.mem_univ t)
    refine ⟨Tb, hT, fun z y hz hy0 hy1 => ?_⟩
    rw [hg t (Finset.mem_univ t) x hx]
    exact hb x hx z y hz hy0 hy1
  · iexact H

end

end Cert.Proof.Lookup

end
-- ==== Proof.Repack.lean ====
/-
  The first pipeline: the table, transposed, is packed two rows to one, point by point.  At every point two blocks of its
  columns are staged, each is turned by a product with the unit matrix, and the two are laid side by side.  The blocks at the
  table's edge carry whatever the staging buffer held before, so that what the packed table holds is a relation.
-/
module

public import proofs.«01_k».proof.Proof.Common
public import Idealize.ShloMosaic.Lib.WritesUnit

@[expose] public section

noncomputable section

namespace Cert.Proof.Lookup

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Rows of the left half come from the first staged block, rows of the right half from the second. -/
def packed (a b : Vec F S64x1024 .f32) : Vec F S1024x128 .f32 := fun x =>
  if h : (x 1).val < 64 then k0_pay2 a (fun | 0 => x 0 | 1 => ⟨(x 1).val, h⟩)
  else k0_pay3 b (fun | 0 => x 0 | 1 => ⟨(x 1).val - 64, by have := (x 1).isLt; show _ < 64; have h2 : S1024x128.size 1 = 128 := rfl; omega⟩)

/-- A load of the whole of a staging buffer reads it. -/
theorem readAt_all (M : Memref sig .tc .vmem S64x1024 .f32) (f : M.view.ty.Contents (Elt F)) :
    M.view.readAt (Elt F) (Rect.unit ![0, 0] S64x1024.size inb_S64x1024_S64x1024_0_0).toLoadRect f = M.view.read (Elt F) f := by
  funext y
  refine congrArg (M.view.read (Elt F) f) (funext fun a => Fin.ext ?_)
  show (![0, 0] : Fin 2 → ℕ) a + 1 * (y a).val = (y a).val
  fin_cases a <;> simp

/-- The body, from its two staged blocks, leaves them packed side by side. -/
theorem repack_run (c : Dev nD) (i : grid0.Coords) (M1 : Memref sig .tc .vmem S64x1024 .f32) (h1 : M1.IsWhole)
    (M2 : Memref sig .tc .vmem S64x1024 .f32) (h2 : M2.IsWhole) (M3 : Memref sig .tc .vmem S1024x128 .f32) (h3 : M3.IsWhole)
    (a b : Vec F S64x1024 .f32) (f1 : Buf (Elt F) (M1.view.loc (c : Thread nD τ))) (f2 : Buf (Elt F) (M2.view.loc (c : Thread nD τ)))
    (f3 : Buf (Elt F) (M3.view.loc (c : Thread nD τ)))
    (e1 : M1.view.read (Elt F) f1 = a) (e2 : M2.view.read (Elt F) f2 = b)
    (E : Set ℕ) (Q : PUnit → sProp 𝕄) :
    iprop((M1.view.loc (c : Thread nD τ) ↦{fullShare} f1) ∗ (M2.view.loc (c : Thread nD τ) ↦{fullShare} f2) ∗ (M3.view.loc (c : Thread nD τ) ↦{fullShare} f3)
        ∗ ((∃ f, ⌜M3.view.read (Elt F) f = packed a b⌝ ∗ (M1.view.loc (c : Thread nD τ) ↦{fullShare} f1) ∗ (M2.view.loc (c : Thread nD τ) ↦{fullShare} f2) ∗ (M3.view.loc (c : Thread nD τ) ↦{fullShare} f)) -∗ Q ⟨⟩))
      ⊢ wp frame (wpE (defs₀ (F := F)) 𝒱₀ (c : Thread nD τ) none) E (cc0__repack_kernel i M1 h1 M2 h2 M3 h3) Q := by
  rw [cc0__repack_kernel_eq_skeleton]
  iintro ⟨H0, H1, H2, Hk⟩
  sl_exec!
  sl_step
  iapply Hk
  iexists _
  isplitr; swap
  · isplitl [H0]; · iexact H0
    isplitl [H1]; · iexact H1
    iexact H2
  ipureintro
  unfold repack_run.sl.H2_2
  rw [readAt_all, readAt_all, e1, e2]
  funext x
  have hx : (x 1).val < 128 := (x 1).isLt
  unfold packed
  split
  · next h =>
    rw [View.read_writes_cons_unit_of_not_mem _ _ _ _ _ _ rfl 1 (.inl h)]
    exact View.read_writes_cons_unit_of_mem _ _ _ _ _ _ _ rfl fun a => by fin_cases a <;> simp
  · next h =>
    exact View.read_writes_cons_unit_of_mem _ _ _ _ _ _ _ rfl fun a => by fin_cases a <;> simp <;> omega

/-- The body over buffers owned at the contents they read. -/
theorem repack_owns (c : Dev nD) (i : grid0.Coords) (M1 : Memref sig .tc .vmem S64x1024 .f32) (h1 : M1.IsWhole)
    (M2 : Memref sig .tc .vmem S64x1024 .f32) (h2 : M2.IsWhole) (M3 : Memref sig .tc .vmem S1024x128 .f32) (h3 : M3.IsWhole)
    (a b : Vec F S64x1024 .f32) (y : Vec F S1024x128 .f32) (E : Set ℕ) (Q : PUnit → sProp 𝕄) :
    iprop(owns (c : Thread nD τ) M1 fullShare a ∗ owns (c : Thread nD τ) M2 fullShare b ∗ owns (c : Thread nD τ) M3 fullShare y
        ∗ (iprop(owns (c : Thread nD τ) M1 fullShare a ∗ owns (c : Thread nD τ) M2 fullShare b ∗ owns (c : Thread nD τ) M3 fullShare (packed a b)) -∗ Q ⟨⟩))
      ⊢ wp frame (wpE (defs₀ (F := F)) 𝒱₀ (c : Thread nD τ) none) E (cc0__repack_kernel i M1 h1 M2 h2 M3 h3) Q := by
  unfold owns
  rw [h1.set_eq_univ, h2.set_eq_univ, h3.set_eq_univ]
  iintro ⟨⟨%f1, %e1, H1⟩, ⟨%f2, %e2, H2⟩, ⟨%f3, -, H3⟩, Hk⟩
  iapply (repack_run c i M1 h1 M2 h2 M3 h3 a b f1 f2 f3 e1 e2 E Q)
  isplitl [H1]; · iexact H1
  isplitl [H2]; · iexact H2
  isplitl [H3]; · iexact H3
  iintro ⟨%f, %e, H1, H2, H3⟩
  iapply Hk
  isplitl [H1]; · iexists f1; isplitr; swap; (· iexact H1); ipureintro; exact e1
  isplitl [H2]; · iexists f2; isplitr; swap; (· iexact H2); ipureintro; exact e2
  iexists f; isplitr; swap; (· iexact H3); ipureintro; exact e

/-! ## What the pipeline knows at each point -/

/-- The transposed table's buffer on device `d`. -/
abbrev eLoc (d : Dev nD) : Loc nD τ sig := (SparseCore.T d).loc main_v8

variable (V8 : (d : Dev nD) → Buf (Elt F) (eLoc d)) (V9 : (d : Dev nD) → Buf (Elt F) (tLoc d))

/-- The waits below the level that the TensorCore may have reached by call `n`. -/
def waitsBelow (d : Dev nD) (n : ℕ) : Set (SemLoc sig × HIx 1) :=
  {p | (K (F := F)).lev (SparseCore.T d, p.1) p.2 ≤ 8 * n}

/-- The first block of the transposed table staged at a point, over what the buffer held. -/
def left (d : Dev nD) (t : Fin cfg0.N) (x : Vec F S64x1024 .f32) : Vec F S64x1024 .f32 :=
  (cfg0.win 0).fill (cfg0.grid.coords t) x (((cfg0.win 0).blk t).view.read (Elt F) (V8 d))
/-- The second one. -/
def right (d : Dev nD) (t : Fin cfg0.N) (x : Vec F S64x1024 .f32) : Vec F S64x1024 .f32 :=
  (cfg0.win 1).fill (cfg0.grid.coords t) x (((cfg0.win 1).blk t).view.read (Elt F) (V8 d))

/-- The two staged blocks stay as they were, and the output's is the two packed side by side. -/
def packData (d : Dev nD) : Pipeline.RDat τ (Elt F) (HIx 1) ℕ UU ℕ cfg0 d where
  A w := match w with
    | ⟨0, _⟩ => V8 d
    | ⟨1, _⟩ => V8 d
    | ⟨2, _⟩ => V9 d
  after w t Y X := match w with
    | ⟨0, _⟩ => X = Y
    | ⟨1, _⟩ => X = Y
    | ⟨2, _⟩ => ∃ x y, X = packed (left V8 d t x) (right V8 d t y)
  Φ _ := Pipeline.scopedRest (Ix := HIx 1) (Name := ℕ) (U := UU) (Lvl := ℕ) (Val := Elt F) spec0 d
  q w := match w with
    | ⟨0, _⟩ => fullShare.left
    | ⟨1, _⟩ => fullShare.right
    | ⟨2, _⟩ => fullShare
  owed _ := (K (F := F)).Otc d 0
  recorded _ := waitsBelow (F := F) d 0

/-- At every point the body packs the two blocks that the pipeline has staged. -/
theorem pack_obligation (d : Dev nD) : (packData V8 V9 d).BodyObligation (defs₀ (F := F)) 𝒱₀ none Set.univ := fun t Y hY => by
  obtain ⟨x, hx⟩ := ((packData V8 V9 d).finds_of_fetch (fetch0_0 t) (Y 0)).mp (hY 0)
  obtain ⟨y, hy⟩ := ((packData V8 V9 d).finds_of_fetch (fetch0_1 t) (Y 1)).mp (hY 1)
  show _ ⊢ wp frame _ _ (bodyAt0 t) _
  rw [bigSep_W0, bigSep_W0]
  iintro ⟨HΦ, Ho, H0, H1, H2⟩
  iapply (repack_owns (F := F) d (grid0.coords t) _ (hstage0_0 ((cfg0.slots t 0).cast nbuf0_0)) _ (hstage0_1 ((cfg0.slots t 1).cast nbuf0_1)) _
    (hstage0_2 ((cfg0.slots t 2).cast nbuf0_2)) (Y 0) (Y 1) (Y 2) Set.univ _)
  isplitl [H0]; · iexact H0
  isplitl [H1]; · iexact H1
  isplitl [H2]; · iexact H2
  iintro ⟨H0, H1, H2⟩
  rw [show (packData V8 V9 d).Φ t.succ = (packData V8 V9 d).Φ t.castSucc from rfl,
    show (packData V8 V9 d).owesAt none t.succ = (packData V8 V9 d).owesAt none t.castSucc from rfl]
  isplitl [HΦ]; · iexact HΦ
  isplitl [Ho]; · iexact Ho
  isplitl [H0]; · iexists (Y 0); isplitr; swap; (· iexact H0); ipureintro; rfl
  isplitl [H1]; · iexists (Y 1); isplitr; swap; (· iexact H1); ipureintro; rfl
  iexists (packed (Y 0) (Y 1)); isplitr; swap; (· iexact H2); ipureintro
  refine ⟨x, y, ?_⟩
  rw [hx, hy]; rfl

/-! ## The pipeline as a step of the program -/

/-- The windows' admissible tables: none is read ahead. -/
abbrev adm : (p : Fin 2) → (pcfgs (F := F) p).Adm := fun p => (cfgs p).toPCfg_adm

/-- Nothing is known of the other pipeline while one runs. -/
def nothing {cfg : Pipeline.Cfg sig Λ₀} (d : Dev nD) [∀ e, Nonempty (Elt F e)] : Pipeline.RDat τ (Elt F) (HIx 1) ℕ UU ℕ cfg d where
  A _ := fun _ => Classical.arbitrary _
  after _ _ _ _ := True
  Φ _ := BI.emp
  q _ := fullShare
  owed _ := 0

/-- The data of both pipelines while the first runs. -/
def packFamily [∀ e, Nonempty (Elt F e)] : (p : Fin 2) → (d : Dev nD) → Pipeline.RDat τ (Elt F) (HIx 1) ℕ UU ℕ (Pipeline.pin (pcfgs (F := F)) adm p) d
  | ⟨0, _⟩ => fun d => packData V8 V9 d
  | ⟨1, _⟩ => fun d => nothing d

/-- The packed table is some contents that the first pipeline may leave. -/
def Packed (d : Dev nD) (T : Buf (Elt F) (tLoc d)) : Prop := (packData V8 V9 d).ArrAt 2 cfg0.N T

/-- The two halves of the transposed table and the packed table, as the first pipeline holds them. -/
theorem packArrays (d : Dev nD) (f0 f1 : Buf (Elt F) (eLoc d)) (f2 : Buf (Elt F) (tLoc d)) (G : (w : Fin cfg0.W) → Buf (Elt F) ((cfg0.win w).arr.view.loc (d.tc : Thread nD τ)))
    (h0 : G 0 = f0) (h1 : G 1 = f1) (h2 : G 2 = f2) :
    (packData V8 V9 d).arrays G = iprop((eLoc d ↦{fullShare.left} f0) ∗ (eLoc d ↦{fullShare.right} f1) ∗ (tLoc d ↦{fullShare} f2)) := by
  subst h0 h1 h2
  unfold Pipeline.RDat.arrays
  rw [bigSep_W0, (arr_whole0 0).set_eq_univ, (arr_whole0 2).set_eq_univ]
  rfl

/-- What the first pipeline leaves in the three. -/
theorem packArraysAt (d : Dev nD) : (packData V8 V9 d).arraysAt cfg0.N
    ⊢ iprop((eLoc d ↦{fullShare.left} V8 d) ∗ (eLoc d ↦{fullShare.right} V8 d) ∗ ∃ T, ⌜Packed V8 V9 d T⌝ ∗ (tLoc d ↦{fullShare} T)) := by
  unfold Pipeline.RDat.arraysAt
  rw [bigSep_W0, (arr_whole0 0).set_eq_univ, (arr_whole0 2).set_eq_univ,
    (packData V8 V9 d).ArrAt_in 0 rfl, (packData V8 V9 d).ArrAt_in 1 rfl]
  iintro ⟨⟨%f0, %h0, H0⟩, ⟨%f1, %h1, H1⟩, ⟨%f2, %h2, H2⟩⟩
  subst h0 h1
  isplitl [H0]; · iexact H0
  isplitl [H1]; · iexact H1
  iexists f2; isplitr; swap; (· iexact H2); ipureintro; exact h2

/-- The TensorCore owes nothing at the index that the pipelines wait at. -/
theorem owes_none (d : Dev nD) (n : ℕ) (g : GSem nD τ sig) : (K (F := F)).Otc d n g (none : HIx 1) = 0 := by
  by_contra h
  exact absurd ((K (F := F)).lev_of_Otc_pos (Nat.pos_of_ne_zero h)) (by rw [SparseCore.Cfg.lev_none]; omega)

/-- The debt of the TensorCore as the launch states it is the debt as a pipeline states it. -/
theorem owes_in (d : Dev nD) (n : ℕ) (B : Set (SemLoc sig × HIx 1)) :
    iprop(∃ W, ⌜(K (F := F)).WBelow (SparseCore.T d) W (8 * n)⌝ ∗ owes (SparseCore.T d) ((K (F := F)).Otc d n) W)
      ⊢ (Pipeline.owesWithin d ((K (F := F)).Otc d n) (waitsBelow (F := F) d n ∪ B) : sProp 𝕄) := by
  iintro ⟨%W, %hW, Ho⟩
  iexists W; isplitr; swap; (· iexact Ho); ipureintro
  exact fun p hp => .inl (hW p hp)

/-- And back: the waits a pipeline has recorded lie at level zero. -/
theorem owes_out (d : Dev nD) (n : ℕ) (cfg : Pipeline.Cfg sig Λ₀) :
    (Pipeline.owesWithin d ((K (F := F)).Otc d n) (waitsBelow (F := F) d n ∪ cfg.waitPairs none) : sProp 𝕄)
      ⊢ iprop(∃ W, ⌜(K (F := F)).WBelow (SparseCore.T d) W (8 * n)⌝ ∗ owes (SparseCore.T d) ((K (F := F)).Otc d n) W) := by
  iintro ⟨%W, %hW, Ho⟩
  iexists W; isplitr; swap; (· iexact Ho); ipureintro
  intro p hp
  rcases hW hp with h | ⟨w, s, rfl⟩
  · exact h
  · exact Nat.zero_le _

set_option backward.isDefEq.respectTransparency.types false in
/-- The first pipeline: from the transposed table and the packed table's buffer, to the packed table. -/
def packSeg [∀ e, Nonempty (Elt F e)] : Pipeline.RDat.RegionSeg (pcfgs (F := F)) adm (packFamily V8 V9) none defs₀ 𝒱₀ (K (F := F)).L (K (F := F)).lev 0 where
  win := winFacts₀0
  block_pos := block_pos0
  stage_whole := stage_whole0
  K := PEmpty
  osem k := k.elim
  ho := Pipeline.OwnSemFacts.none _
  hbody d := pack_obligation V8 V9 d
  hwaits d := Pipeline.RDat.cellsWaits_intro _ _ _ _ _ fun w s t => (K (F := F)).mayWait_none _ fun g => owes_none d 0 g
  pre d := iprop((∃ W, ⌜(K (F := F)).WBelow (SparseCore.T d) W (8 * 0)⌝ ∗ owes (SparseCore.T d) ((K (F := F)).Otc d 0) W)
    ∗ (eLoc d ↦{fullShare} V8 d) ∗ (tLoc d ↦{fullShare} V9 d))
  post d := iprop((∃ W, ⌜(K (F := F)).WBelow (SparseCore.T d) W (8 * 0)⌝ ∗ owes (SparseCore.T d) ((K (F := F)).Otc d 0) W)
    ∗ (eLoc d ↦{fullShare} V8 d) ∗ ∃ T, ⌜Packed V8 V9 d T⌝ ∗ (tLoc d ↦{fullShare} T))
  X _ := BI.emp
  Y _ := BI.emp
  Z _ := BI.emp
  hentry d := by
    rw [Pipeline.ownSems0_none]
    iintro ⟨⟨Ho, He, Ht⟩, -, -⟩
    imodintro
    rw [show (packFamily V8 V9 0 d).arrays (packFamily V8 V9 0 d).A = _ from packArrays V8 V9 d (V8 d) (V8 d) (V9 d) _ rfl rfl rfl]
    ihave He := (pointsTo_share (PosShare.mem_left_op_right fullShare)).1 $$ He
    icases He with ⟨Hl, Hr⟩
    isplitl [Hl Hr Ht]
    · isplitl [Hl]; · iexact Hl
      isplitl [Hr]; · iexact Hr
      iexact Ht
    isplitr; · unfold Pipeline.prefHeld; rw [show (Finset.univ : Finset (Fin 0)) = ∅ from rfl, BI.bigSep_empty]; iempintro
    isplitl [Ho]; · iapply (owes_in d 0 _); iexact Ho
    isplitr; · iempintro
    iempintro
  hin d := by
    rw [show (packFamily V8 V9 0 d).Φ 0 = Pipeline.scopedRest spec0 d from rfl]
    iintro ⟨-, -, Hr⟩; iexact Hr
  hout d := by
    rw [Pipeline.ownSems0_none, show (packFamily V8 V9 0 d).Φ (Fin.last _) = Pipeline.scopedRest spec0 d from rfl]
    iintro Hr
    isplitr; · iempintro
    isplitr; · iempintro
    iexact Hr
  hexit d := by
    rw [show (packFamily V8 V9 0 d).arraysAt (Pipeline.pin (pcfgs (F := F)) adm 0).N = (packData V8 V9 d).arraysAt cfg0.N from rfl]
    iintro ⟨Ha, Ho, -, -⟩
    ihave Ha := (packArraysAt V8 V9 d) $$ Ha
    icases Ha with ⟨Hl, Hr, HT⟩
    imodintro
    isplitl [Ho]; · iapply (owes_out d 0 cfg0); iexact Ho
    isplitl [Hl Hr]
    · iapply (pointsTo_share (PosShare.mem_left_op_right fullShare)).2
      isplitl [Hl]; · iexact Hl
      iexact Hr
    iexact HT

end Cert.Proof.Lookup

end
-- ==== Proof.Head.lean ====
/-
  The second pipeline: of every gathered row the half that the parity names is taken, and the product with the weights is
  added to the bias, block of columns by block of columns.  The gathered rows and the parities are staged once.
-/
module

public import proofs.«01_k».proof.Proof.Repack

@[expose] public section

noncomputable section

namespace Cert.Proof.Lookup

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The columns from `o` on of a block of gathered rows. -/
def half (o : ℕ) (ho : o ≤ 64) (g : Vec F S512x128 .f32) : Vec F S512x64 .f32 := fun y =>
  g (fun | 0 => y 0 | 1 => ⟨o + (y 1).val, by have h : (y 1).val < 64 := (y 1).isLt; show _ < 128; omega⟩)

/-- The block of the result: of gathered rows, parities, a block of weights and a block of the bias. -/
def scored (g : Vec F S512x128 .f32) (p : Vec F S512x1 .f32) (w : Vec F S64x4096 .f32) (b : Vec F S1x4096 .f32) : Vec F S512x4096 .f32 :=
  k2_pay1 p (half 64 (le_refl _) g) (half 0 (Nat.zero_le _) g) w b

/-- A load at the origin of all of a matrix reads it. -/
theorem readAt_origin {S : Fin 2 → ℕ} (M : Memref sig .tc .vmem ⟨2, S⟩ .f32) (f : M.view.ty.Contents (Elt F)) (h : ∀ a, (![0, 0] : Fin 2 → ℕ) a + S a ≤ S a) :
    M.view.readAt (Elt F) (Rect.unit (s := ⟨2, S⟩) ![0, 0] S h).toLoadRect f = M.view.read (Elt F) f := by
  funext y
  refine congrArg (M.view.read (Elt F) f) (funext fun a => Fin.ext ?_)
  show (![0, 0] : Fin 2 → ℕ) a + 1 * (y a).val = (y a).val
  fin_cases a <;> simp

/-- The body, from its staged blocks, leaves the block of the result. -/
theorem head_run (c : Dev nD) (i : grid2.Coords) (M1 : Memref sig .tc .vmem S512x128 .f32) (h1 : M1.IsWhole)
    (M2 : Memref sig .tc .vmem S512x1 .f32) (h2 : M2.IsWhole) (M3 : Memref sig .tc .vmem S64x4096 .f32) (h3 : M3.IsWhole)
    (M4 : Memref sig .tc .vmem S1x4096 .f32) (h4 : M4.IsWhole) (M5 : Memref sig .tc .vmem S512x4096 .f32) (h5 : M5.IsWhole)
    (g : Vec F S512x128 .f32) (p : Vec F S512x1 .f32) (w : Vec F S64x4096 .f32) (b : Vec F S1x4096 .f32)
    (f1 : Buf (Elt F) (M1.view.loc (c : Thread nD τ))) (f2 : Buf (Elt F) (M2.view.loc (c : Thread nD τ)))
    (f3 : Buf (Elt F) (M3.view.loc (c : Thread nD τ))) (f4 : Buf (Elt F) (M4.view.loc (c : Thread nD τ))) (f5 : Buf (Elt F) (M5.view.loc (c : Thread nD τ)))
    (e1 : M1.view.read (Elt F) f1 = g) (e2 : M2.view.read (Elt F) f2 = p) (e3 : M3.view.read (Elt F) f3 = w) (e4 : M4.view.read (Elt F) f4 = b)
    (E : Set ℕ) (Q : PUnit → sProp 𝕄) :
    iprop((M1.view.loc (c : Thread nD τ) ↦{fullShare} f1) ∗ (M2.view.loc (c : Thread nD τ) ↦{fullShare} f2) ∗ (M3.view.loc (c : Thread nD τ) ↦{fullShare} f3)
        ∗ (M4.view.loc (c : Thread nD τ) ↦{fullShare} f4) ∗ (M5.view.loc (c : Thread nD τ) ↦{fullShare} f5)
        ∗ ((∃ f, ⌜M5.view.read (Elt F) f = scored g p w b⌝ ∗ (M1.view.loc (c : Thread nD τ) ↦{fullShare} f1) ∗ (M2.view.loc (c : Thread nD τ) ↦{fullShare} f2)
            ∗ (M3.view.loc (c : Thread nD τ) ↦{fullShare} f3) ∗ (M4.view.loc (c : Thread nD τ) ↦{fullShare} f4) ∗ (M5.view.loc (c : Thread nD τ) ↦{fullShare} f)) -∗ Q ⟨⟩))
      ⊢ wp frame (wpE (defs₀ (F := F)) 𝒱₀ (c : Thread nD τ) none) E (cc2__head_kernel i M1 h1 M2 h2 M3 h3 M4 h4 M5 h5) Q := by
  rw [cc2__head_kernel_eq_skeleton]
  iintro ⟨H1, H2, H3, H4, H5, Hk⟩
  sl_exec!
  sl_step
  iapply Hk
  iexists _
  isplitr; swap
  · isplitl [H1]; · iexact H1
    isplitl [H2]; · iexact H2
    isplitl [H3]; · iexact H3
    isplitl [H4]; · iexact H4
    iexact H5
  ipureintro
  unfold head_run.sl.H5_1
  funext x
  refine (View.read_writes_cons_unit_of_mem M5.view _ _ _ _ x x rfl fun a => by fin_cases a <;> simp).trans ?_
  unfold scored
  rw [readAt_origin, readAt_origin, readAt_origin, e2, e3, e4]
  refine congrFun (congrArg₂ (fun u v => k2_pay1 p u v w b) ?_ ?_) x
  · subst e1; funext y
    refine congrArg (M1.view.read (Elt F) f1) (funext fun a => Fin.ext ?_)
    fin_cases a
    · show 0 + 1 * (y 0).val = (y 0).val; omega
    · show 64 + 1 * (y 1).val = 64 + (y 1).val; omega
  · subst e1; funext y
    refine congrArg (M1.view.read (Elt F) f1) (funext fun a => Fin.ext ?_)
    fin_cases a
    · show 0 + 1 * (y 0).val = (y 0).val; omega
    · show 0 + 1 * (y 1).val = 0 + (y 1).val; omega

/-- The body over buffers owned at the contents they read. -/
theorem head_owns (c : Dev nD) (i : grid2.Coords) (M1 : Memref sig .tc .vmem S512x128 .f32) (h1 : M1.IsWhole)
    (M2 : Memref sig .tc .vmem S512x1 .f32) (h2 : M2.IsWhole) (M3 : Memref sig .tc .vmem S64x4096 .f32) (h3 : M3.IsWhole)
    (M4 : Memref sig .tc .vmem S1x4096 .f32) (h4 : M4.IsWhole) (M5 : Memref sig .tc .vmem S512x4096 .f32) (h5 : M5.IsWhole)
    (g : Vec F S512x128 .f32) (p : Vec F S512x1 .f32) (w : Vec F S64x4096 .f32) (b : Vec F S1x4096 .f32) (y : Vec F S512x4096 .f32)
    (E : Set ℕ) (Q : PUnit → sProp 𝕄) :
    iprop(owns (c : Thread nD τ) M1 fullShare g ∗ owns (c : Thread nD τ) M2 fullShare p ∗ owns (c : Thread nD τ) M3 fullShare w
        ∗ owns (c : Thread nD τ) M4 fullShare b ∗ owns (c : Thread nD τ) M5 fullShare y
        ∗ (iprop(owns (c : Thread nD τ) M1 fullShare g ∗ owns (c : Thread nD τ) M2 fullShare p ∗ owns (c : Thread nD τ) M3 fullShare w
            ∗ owns (c : Thread nD τ) M4 fullShare b ∗ owns (c : Thread nD τ) M5 fullShare (scored g p w b)) -∗ Q ⟨⟩))
      ⊢ wp frame (wpE (defs₀ (F := F)) 𝒱₀ (c : Thread nD τ) none) E (cc2__head_kernel i M1 h1 M2 h2 M3 h3 M4 h4 M5 h5) Q := by
  unfold owns
  rw [h1.set_eq_univ, h2.set_eq_univ, h3.set_eq_univ, h4.set_eq_univ, h5.set_eq_univ]
  iintro ⟨⟨%f1, %e1, H1⟩, ⟨%f2, %e2, H2⟩, ⟨%f3, %e3, H3⟩, ⟨%f4, %e4, H4⟩, ⟨%f5, -, H5⟩, Hk⟩
  iapply (head_run c i M1 h1 M2 h2 M3 h3 M4 h4 M5 h5 g p w b f1 f2 f3 f4 f5 e1 e2 e3 e4 E Q)
  isplitl [H1]; · iexact H1
  isplitl [H2]; · iexact H2
  isplitl [H3]; · iexact H3
  isplitl [H4]; · iexact H4
  isplitl [H5]; · iexact H5
  iintro ⟨%f, %e, H1, H2, H3, H4, H5⟩
  iapply Hk
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  iexists f; isplitr; swap; (· iexact H5); ipureintro; exact e

/-! ## What the pipeline knows at each point -/

/-- The parities', the transposed weights', the bias's and the scores' buffer on device `d`. -/
abbrev pLoc (d : Dev nD) : Loc nD τ sig := (SparseCore.T d).loc main_v7
abbrev wLoc (d : Dev nD) : Loc nD τ sig := (SparseCore.T d).loc main_v11
abbrev bLoc (d : Dev nD) : Loc nD τ sig := (SparseCore.T d).loc main_v12
abbrev sLoc (d : Dev nD) : Loc nD τ sig := (SparseCore.T d).loc main_v13

variable (G : (d : Dev nD) → Buf (Elt F) (oLoc d)) (P7 : (d : Dev nD) → Buf (Elt F) (pLoc d)) (W11 : (d : Dev nD) → Buf (Elt F) (wLoc d))
  (B12 : (d : Dev nD) → Buf (Elt F) (bLoc d)) (V13 : (d : Dev nD) → Buf (Elt F) (sLoc d))

/-- The first point. -/
abbrev start2 : Fin cfg2.N := ⟨0, by decide⟩

/-- The four inputs' blocks staged at a point, each over what the buffer held. -/
def rowsAt (d : Dev nD) (t : Fin cfg2.N) (x : Vec F S512x128 .f32) : Vec F S512x128 .f32 :=
  (cfg2.win 0).fill (cfg2.grid.coords t) x (((cfg2.win 0).blk t).view.read (Elt F) (G d))
def parityAt (d : Dev nD) (t : Fin cfg2.N) (x : Vec F S512x1 .f32) : Vec F S512x1 .f32 :=
  (cfg2.win 1).fill (cfg2.grid.coords t) x (((cfg2.win 1).blk t).view.read (Elt F) (P7 d))
def weightsAt (d : Dev nD) (t : Fin cfg2.N) (x : Vec F S64x4096 .f32) : Vec F S64x4096 .f32 :=
  (cfg2.win 2).fill (cfg2.grid.coords t) x (((cfg2.win 2).blk t).view.read (Elt F) (W11 d))
def biasAt (d : Dev nD) (t : Fin cfg2.N) (x : Vec F S1x4096 .f32) : Vec F S1x4096 .f32 :=
  (cfg2.win 3).fill (cfg2.grid.coords t) x (((cfg2.win 3).blk t).view.read (Elt F) (B12 d))

/-- The staged blocks stay as they were, and the output's is the block of the result. -/
def headData (d : Dev nD) : Pipeline.RDat τ (Elt F) (HIx 1) ℕ UU ℕ cfg2 d where
  A w := match w with
    | ⟨0, _⟩ => G d
    | ⟨1, _⟩ => P7 d
    | ⟨2, _⟩ => W11 d
    | ⟨3, _⟩ => B12 d
    | ⟨4, _⟩ => V13 d
  after w t Y X := match w with
    | ⟨0, _⟩ => X = Y
    | ⟨1, _⟩ => X = Y
    | ⟨2, _⟩ => X = Y
    | ⟨3, _⟩ => X = Y
    | ⟨4, _⟩ => ∃ x0 x1 x2 x3, X = scored (rowsAt G d start2 x0) (parityAt P7 d start2 x1) (weightsAt W11 d t x2) (biasAt B12 d t x3)
  Φ _ := Pipeline.scopedRest (Ix := HIx 1) (Name := ℕ) (U := UU) (Lvl := ℕ) (Val := Elt F) spec2 d
  q _ := fullShare
  owed _ := (K (F := F)).Otc d 1
  recorded _ := waitsBelow (F := F) d 1

/-- A window that is staged once and left alone holds at every point what the first point staged. -/
theorem staged_once (d : Dev nD) (w : Fin cfg2.W) (hin : (cfg2.win w).isOut = false) (hfetch : ∀ t : Fin cfg2.N, (cfg2.win w).fetch t = true ↔ t.val % 25 = 0)
    (hafter : ∀ t Y X, (headData G P7 W11 B12 V13 d).after w t Y X → X = Y) :
    ∀ (n : ℕ) (hn : n < cfg2.N) X, (headData G P7 W11 B12 V13 d).Finds w ⟨n, hn⟩ X → ∃ x, X = (headData G P7 W11 B12 V13 d).fetched w start2 x
  | 0, hn, X, h => ((headData G P7 W11 B12 V13 d).finds_of_fetch ((hfetch _).mpr rfl) X).mp h
  | n + 1, hn, X, h => by
    have hN : cfg2.N = 25 := N_2
    have hf : (cfg2.win w).fetch ⟨n + 1, hn⟩ = false := by
      rw [Bool.eq_false_iff]; intro h'
      have := (hfetch _).mp h'
      dsimp only at this; omega
    rcases ((headData G P7 W11 B12 V13 d).finds_of_pos hf (Nat.succ_ne_zero n) X).mp h with h | ⟨Y, hY, hXY⟩
    · exact absurd h (by unfold Pipeline.Window.flush; rw [hin]; simp)
    · obtain rfl := hafter _ _ _ hXY
      exact staged_once d w hin hfetch hafter n (by omega) _ hY

/-- At every point the body computes the block of the result from the blocks that the pipeline has staged. -/
theorem head_obligation (d : Dev nD) : (headData G P7 W11 B12 V13 d).BodyObligation (defs₀ (F := F)) 𝒱₀ none Set.univ := fun t Y hY => by
  obtain ⟨x0, hx0⟩ := staged_once G P7 W11 B12 V13 d 0 rfl fetch2_0 (fun _ _ _ h => h) t.val t.isLt (Y 0) (hY 0)
  obtain ⟨x1, hx1⟩ := staged_once G P7 W11 B12 V13 d 1 rfl fetch2_1 (fun _ _ _ h => h) t.val t.isLt (Y 1) (hY 1)
  obtain ⟨x2, hx2⟩ := ((headData G P7 W11 B12 V13 d).finds_of_fetch (fetch2_2 t) (Y 2)).mp (hY 2)
  obtain ⟨x3, hx3⟩ := ((headData G P7 W11 B12 V13 d).finds_of_fetch (fetch2_3 t) (Y 3)).mp (hY 3)
  show _ ⊢ wp frame _ _ (bodyAt2 t) _
  rw [bigSep_W2, bigSep_W2]
  iintro ⟨HΦ, Ho, H0, H1, H2, H3, H4⟩
  iapply (head_owns (F := F) d (grid2.coords t) _ (hstage2_0 ((cfg2.slots t 0).cast nbuf2_0)) _ (hstage2_1 ((cfg2.slots t 1).cast nbuf2_1)) _
    (hstage2_2 ((cfg2.slots t 2).cast nbuf2_2)) _ (hstage2_3 ((cfg2.slots t 3).cast nbuf2_3)) _ (hstage2_4 ((cfg2.slots t 4).cast nbuf2_4))
    (Y 0) (Y 1) (Y 2) (Y 3) (Y 4) Set.univ _)
  isplitl [H0]; · iexact H0
  isplitl [H1]; · iexact H1
  isplitl [H2]; · iexact H2
  isplitl [H3]; · iexact H3
  isplitl [H4]; · iexact H4
  iintro ⟨H0, H1, H2, H3, H4⟩
  rw [show (headData G P7 W11 B12 V13 d).Φ t.succ = (headData G P7 W11 B12 V13 d).Φ t.castSucc from rfl,
    show (headData G P7 W11 B12 V13 d).owesAt none t.succ = (headData G P7 W11 B12 V13 d).owesAt none t.castSucc from rfl]
  isplitl [HΦ]; · iexact HΦ
  isplitl [Ho]; · iexact Ho
  isplitl [H0]; · iexists (Y 0); isplitr; swap; (· iexact H0); ipureintro; rfl
  isplitl [H1]; · iexists (Y 1); isplitr; swap; (· iexact H1); ipureintro; rfl
  isplitl [H2]; · iexists (Y 2); isplitr; swap; (· iexact H2); ipureintro; rfl
  isplitl [H3]; · iexists (Y 3); isplitr; swap; (· iexact H3); ipureintro; rfl
  iexists (scored (Y 0) (Y 1) (Y 2) (Y 3)); isplitr; swap; (· iexact H4); ipureintro
  refine ⟨x0, x1, x2, x3, ?_⟩
  rw [hx0, hx1, hx2, hx3]; rfl

/-! ## The pipeline as a step of the program -/

/-- The data of both pipelines while the second runs. -/
def headFamily [∀ e, Nonempty (Elt F e)] : (p : Fin 2) → (d : Dev nD) → Pipeline.RDat τ (Elt F) (HIx 1) ℕ UU ℕ (Pipeline.pin (pcfgs (F := F)) adm p) d
  | ⟨0, _⟩ => fun d => nothing d
  | ⟨1, _⟩ => fun d => headData G P7 W11 B12 V13 d

/-- The scores are some contents that the second pipeline may leave. -/
def Scored (d : Dev nD) (f : Buf (Elt F) (sLoc d)) : Prop := (headData G P7 W11 B12 V13 d).ArrAt 4 cfg2.N f

/-- The five arrays as the second pipeline takes them. -/
theorem headArrays (d : Dev nD) : (headData G P7 W11 B12 V13 d).arrays (headData G P7 W11 B12 V13 d).A
    = iprop((oLoc d ↦{fullShare} G d) ∗ (pLoc d ↦{fullShare} P7 d) ∗ (wLoc d ↦{fullShare} W11 d) ∗ (bLoc d ↦{fullShare} B12 d) ∗ (sLoc d ↦{fullShare} V13 d)) := by
  unfold Pipeline.RDat.arrays
  rw [bigSep_W2, (arr_whole2 0).set_eq_univ, (arr_whole2 1).set_eq_univ, (arr_whole2 2).set_eq_univ, (arr_whole2 3).set_eq_univ, (arr_whole2 4).set_eq_univ]
  rfl

/-- What the second pipeline leaves in the result's. -/
theorem headArraysAt (d : Dev nD) : (headData G P7 W11 B12 V13 d).arraysAt cfg2.N ⊢ iprop(∃ f, ⌜Scored G P7 W11 B12 V13 d f⌝ ∗ (sLoc d ↦{fullShare} f)) := by
  unfold Pipeline.RDat.arraysAt
  rw [bigSep_W2, (arr_whole2 4).set_eq_univ]
  iintro ⟨-, -, -, -, ⟨%f, %h, H⟩⟩
  iexists f; isplitr; swap; (· iexact H); ipureintro; exact h

set_option backward.isDefEq.respectTransparency.types false in
/-- The second pipeline: from the gathered rows, the parities, the weights and the bias to the scores. -/
def headSeg [∀ e, Nonempty (Elt F e)] : Pipeline.RDat.RegionSeg (pcfgs (F := F)) adm (headFamily G P7 W11 B12 V13) none defs₀ 𝒱₀ (K (F := F)).L (K (F := F)).lev 1 where
  win := winFacts2.to₀
  block_pos := block_pos2
  stage_whole := stage_whole2
  K := PEmpty
  osem k := k.elim
  ho := Pipeline.OwnSemFacts.none _
  hbody d := head_obligation G P7 W11 B12 V13 d
  hwaits d := Pipeline.RDat.cellsWaits_intro _ _ _ _ _ fun w s t => (K (F := F)).mayWait_none _ fun g => owes_none d 1 g
  pre d := iprop((∃ W, ⌜(K (F := F)).WBelow (SparseCore.T d) W (8 * 1)⌝ ∗ owes (SparseCore.T d) ((K (F := F)).Otc d 1) W)
    ∗ (oLoc d ↦{fullShare} G d) ∗ (pLoc d ↦{fullShare} P7 d) ∗ (wLoc d ↦{fullShare} W11 d) ∗ (bLoc d ↦{fullShare} B12 d) ∗ (sLoc d ↦{fullShare} V13 d))
  post d := iprop((∃ W, ⌜(K (F := F)).WBelow (SparseCore.T d) W (8 * 1)⌝ ∗ owes (SparseCore.T d) ((K (F := F)).Otc d 1) W)
    ∗ ∃ f, ⌜Scored G P7 W11 B12 V13 d f⌝ ∗ (sLoc d ↦{fullShare} f))
  X _ := BI.emp
  Y _ := BI.emp
  Z _ := BI.emp
  hentry d := by
    rw [Pipeline.ownSems0_none]
    iintro ⟨⟨Ho, Ha⟩, -, -⟩
    imodintro
    rw [show (headFamily G P7 W11 B12 V13 1 d).arrays (headFamily G P7 W11 B12 V13 1 d).A = _ from headArrays G P7 W11 B12 V13 d]
    isplitl [Ha]; · iexact Ha
    isplitr; · unfold Pipeline.prefHeld; rw [show (Finset.univ : Finset (Fin 0)) = ∅ from rfl, BI.bigSep_empty]; iempintro
    isplitl [Ho]; · iapply (owes_in d 1 _); iexact Ho
    isplitr; · iempintro
    iempintro
  hin d := by
    rw [show (headFamily G P7 W11 B12 V13 1 d).Φ 0 = Pipeline.scopedRest spec2 d from rfl]
    iintro ⟨-, -, Hr⟩; iexact Hr
  hout d := by
    rw [Pipeline.ownSems0_none, show (headFamily G P7 W11 B12 V13 1 d).Φ (Fin.last _) = Pipeline.scopedRest spec2 d from rfl]
    iintro Hr
    isplitr; · iempintro
    isplitr; · iempintro
    iexact Hr
  hexit d := by
    rw [show (headFamily G P7 W11 B12 V13 1 d).arraysAt (Pipeline.pin (pcfgs (F := F)) adm 1).N = (headData G P7 W11 B12 V13 d).arraysAt cfg2.N from rfl]
    iintro ⟨Ha, Ho, -, -⟩
    ihave Ha := (headArraysAt G P7 W11 B12 V13 d) $$ Ha
    imodintro
    isplitl [Ho]; · iapply (owes_out d 1 cfg2); iexact Ho
    iexact Ha

end Cert.Proof.Lookup

end
-- ==== Proof.Run.lean ====
/-
  The program's run: the host's operations before the packing, the packing, the gather on the SparseCores, the operations
  before the scores, the scores, and the last reshape; and from it what every run ends in.
-/
module

public import proofs.«01_k».proof.Proof.Split
public import proofs.«01_k».proof.Proof.Head

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay)
open Idealize.ShloMosaic.StableHlo (after held tcRefs seq launchContents)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
/-- A host operation of the program. -/
local notation "𝕆" => HloOp τ sig (Elt F)

/-! ## The host's operations -/

/-- The operations before the packing: the row number and the parity of every token, and the table transposed. -/
def opsBefore : List 𝕆 :=
  [StableHlo.reshape main_arg0 main_v0 (rfl : (.i32 : EltTy) = .i32) shapeCasts_S32x16_S512,
   StableHlo.nullary main_c (constantI S_ 32 50176#32),
   StableHlo.unary main_c main_v1 (broadcastInDim S512 ![] bcast_S_S512 : (⟨S_, .i32⟩ : BufTy).Contents (Elt F) → (⟨S512, .i32⟩ : BufTy).Contents (Elt F)),
   StableHlo.binary main_v0 main_v1 main_v2 (cmpi .sge : (⟨S512, .i32⟩ : BufTy).Contents (Elt F) → (⟨S512, .i32⟩ : BufTy).Contents (Elt F) → (⟨S512, .i1⟩ : BufTy).Contents (Elt F)),
   StableHlo.nullary main_c_0 (constantI S_ 32 50176#32),
   StableHlo.unary main_c_0 main_v3 (broadcastInDim S512 ![] bcast_S_S512 : (⟨S_, .i32⟩ : BufTy).Contents (Elt F) → (⟨S512, .i32⟩ : BufTy).Contents (Elt F)),
   StableHlo.binary main_v0 main_v3 main_v4 (subi : (⟨S512, .i32⟩ : BufTy).Contents (Elt F) → (⟨S512, .i32⟩ : BufTy).Contents (Elt F) → (⟨S512, .i32⟩ : BufTy).Contents (Elt F)),
   StableHlo.ternary main_v2 main_v4 main_v0 main_v5 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
   StableHlo.unary main_v2 main_v6 (uitofp .f32 : (⟨S512, .i1⟩ : BufTy).Contents (Elt F) → (⟨S512, .f32⟩ : BufTy).Contents (Elt F)),
   StableHlo.reshape main_v6 main_v7 (rfl : (.f32 : EltTy) = .f32) shapeCasts_S512_S512x1,
   StableHlo.unary main_arg2 main_v8 ((transpose S64x100000 [1, 0] · transposes_S100000x64_S64x100000_1_0) : (⟨S100000x64, .f32⟩ : BufTy).Contents (Elt F) → (⟨S64x100000, .f32⟩ : BufTy).Contents (Elt F))]

/-- The weights transposed; the bias as a row; the scores by sentence. -/
def opWeights : 𝕆 := StableHlo.unary main_arg3 main_v11 ((transpose S64x100000 [1, 0] · transposes_S100000x64_S64x100000_1_0) : (⟨S100000x64, .f32⟩ : BufTy).Contents (Elt F) → (⟨S64x100000, .f32⟩ : BufTy).Contents (Elt F))
def opBias : 𝕆 := StableHlo.reshape main_arg4 main_v12 (rfl : (.f32 : EltTy) = .f32) shapeCasts_S100000_S1x100000
def opResult : 𝕆 := StableHlo.reshape main_v13 main_v14 (rfl : (.f32 : EltTy) = .f32) shapeCasts_S512x100000_S32x16x100000

/-- The program as its steps. -/
theorem main_eq (d : Dev nD) : main (F := F) d = (seq (opsBefore (F := F)) >>= fun _ => do
    Prog.lift (.customCall (SparseCore.inner (Pipeline.entry 0)) ())
    (K (F := F)).run d 0
    hlo rfl opWeights (fun _ => .ret ⟨⟩)
    hlo rfl opBias (fun _ => .ret ⟨⟩)
    Prog.lift (.customCall (SparseCore.inner (Pipeline.entry 1)) ())
    hlo rfl opResult (fun _ => .ret ⟨⟩)
    pure ⟨⟩) := by
  rw [StableHlo.seq_bind_seqK]
  rfl

/-! ## The buffers' contents along the run -/

variable (m : (ℓ : Loc nD τ sig) → Buf (Elt F) ℓ) (ρ : Dev nD → PrngReg)

/-- What device `d`'s buffers hold when the packing begins. -/
def ent (d : Dev nD) : Valuation τ sig (Elt F) := after (opsBefore (F := F)) (launchContents m d)

def rowIx (d : Dev nD) : Buf (Elt F) (iLoc d) := ent m d (Proc.devRef .tc main_v5)
def parity (d : Dev nD) : Buf (Elt F) (pLoc d) := ent m d (Proc.devRef .tc main_v7)
def tableT (d : Dev nD) : Buf (Elt F) (eLoc d) := ent m d (Proc.devRef .tc main_v8)
def packed₀ (d : Dev nD) : Buf (Elt F) (tLoc d) := ent m d (Proc.devRef .tc main_v9)
def weightsT (d : Dev nD) : Buf (Elt F) (wLoc d) := (opWeights (F := F)).result (ent m d) (Proc.devRef .tc main_v11)
def biasRow (d : Dev nD) : Buf (Elt F) (bLoc d) := (opBias (F := F)).result (ent m d) (Proc.devRef .tc main_v12)
def scores₀ (d : Dev nD) : Buf (Elt F) (sLoc d) := ent m d (Proc.devRef .tc main_v13)

/-- The packed table as the gather finds it. -/
def TO (d : Dev nD) (Tb : Buf (Elt F) (tLoc d)) : Prop := Packed (tableT m) (packed₀ m) d Tb

/-- What the result may be: the scores, by sentence, of rows gathered from the packed table. -/
def ResultOK (d : Dev nD) (r : Buf (Elt F) ((SparseCore.T (nD := nD) (τ := τ) d).loc main_v14)) : Prop :=
  ∃ (G : (d : Dev nD) → Buf (Elt F) (oLoc d)) (f : Buf (Elt F) (sLoc d)),
    (∀ x, ∃ Tb, TO m d Tb ∧ GatheredAt (rowIx m) d Tb (G d) x) ∧ Scored G (parity m) (weightsT m) (biasRow m) (scores₀ m) d f
      ∧ r = shapeCast S32x16x100000 (f : Vec F S512x100000 .f32) shapeCasts_S512x100000_S32x16x100000

/-! ## One operation of the host, one pipeline -/

/-- An operation of the host from one buffer to another. -/
theorem host_one (d : Dev nD) (op : 𝕆) (x y : Ref sig .tc) (hxy : x ≠ y) (hb : op.bufs ⊆ {Proc.devRef .tc x, Proc.devRef .tc y})
    (hf : op.fresh = ∅) (W : Valuation τ sig (Elt F)) (hx : op.result W (Proc.devRef .tc x) = W (Proc.devRef .tc x)) (Q : PUnit → sProp 𝕄) :
    iprop(boundary (SparseCore.T d) ∗ ((SparseCore.T d).loc x ↦{fullShare} W (Proc.devRef .tc x)) ∗ ((SparseCore.T d).loc y ↦{fullShare} W (Proc.devRef .tc y))
        ∗ (iprop(boundary (SparseCore.T d) ∗ ((SparseCore.T d).loc x ↦{fullShare} W (Proc.devRef .tc x))
            ∗ ((SparseCore.T d).loc y ↦{fullShare} op.result W (Proc.devRef .tc y))) -∗ Q ⟨⟩))
      ⊢ wp frame (wpE ((K (F := F)).defs (D (F := F))) 𝒱 (SparseCore.T d) none) Set.univ (hlo rfl op fun _ => .ret ⟨⟩) Q := by
  have hne : (Proc.devRef .tc x : DevRef τ sig) ≠ Proc.devRef .tc y := StableHlo.devRef_ne_of_ne hxy
  have hS (W : Valuation τ sig (Elt F)) : (held (SparseCore.T d) {Proc.devRef .tc x, Proc.devRef .tc y} W : sProp 𝕄)
      = iprop(((SparseCore.T d).loc x ↦{fullShare} W (Proc.devRef .tc x)) ∗ ((SparseCore.T d).loc y ↦{fullShare} W (Proc.devRef .tc y))) := by
    unfold held
    rw [SparseCore.bigSep_insert' (by rw [Finset.mem_singleton]; exact hne), bigSep_singleton]
  iintro ⟨Hb, Hx, Hy, Hk⟩
  iapply (StableHlo.wp_hlo_within 𝒱 (SparseCore.T d) none Set.univ hb (V := W) (hf := hf)) $$ [Hb Hx Hy]
  · isplitl [Hb]; · iexact Hb
    rw [hS]
    isplitl [Hx]; · iexact Hx
    iexact Hy
  rw [hS, hx, wp_ret]
  iintro ⟨Hb, Hx, Hy⟩
  imodintro
  iapply Hk
  isplitl [Hb]; · iexact Hb
  isplitl [Hx]; · iexact Hx
  iexact Hy

/-- The pipelines' cells are apart. -/
theorem cells_inj : Function.Injective (Pipeline.cellOf (nD := nD) (τ := τ) (Pipeline.pin (pcfgs (F := F)) adm)) := cellOf_inj

set_option backward.isDefEq.respectTransparency.types false in
/-- A pipeline run by the host between two SparseCore calls. -/
theorem pipeline_run [∀ e, Nonempty (Elt F e)] {rdats : (p : Fin 2) → (d : Dev nD) → Pipeline.RDat τ (Elt F) (HIx 1) ℕ UU ℕ (Pipeline.pin (pcfgs (F := F)) adm p) d}
    {p : Fin 2} (R : Pipeline.RDat.RegionSeg (pcfgs (F := F)) adm rdats none defs₀ 𝒱₀ (K (F := F)).L (K (F := F)).lev p) (d : Dev nD) (Q : PUnit → sProp 𝕄) :
    iprop((iprop(boundary (SparseCore.T d) ∗ R.post d) -∗ Q ⟨⟩) ∗ boundary (SparseCore.T d) ∗ R.pre d ∗ levAts (K (F := F)).L (K (F := F)).lev
        ∗ Pipeline.cellsGhost (Pipeline.pin (pcfgs (F := F)) adm) (EP (F := F)) p d ∗ Pipeline.toksInit (Pipeline.pin (pcfgs (F := F)) adm) (EP (F := F)) p d)
      ⊢ wp frame (wpE ((K (F := F)).defs (D (F := F))) 𝒱 (SparseCore.T d) none) Set.univ
          (Prog.lift (.customCall (SparseCore.inner (Pipeline.entry p)) ())) Q := by
  have h := Pipeline.RDat.RegionSeg.wp (pcfgs (F := F)) adm rdats none cells_inj (EP (F := F)) defs₀ 𝒱₀ (K (F := F)).L (K (F := F)).lev R d none
    (fun u hu => nomatch hu) (α := PUnit) (fun _ => .ret ⟨⟩) Q
  iintro ⟨H, Hrest⟩
  iapply ((K (F := F)).wp_liftProg (D (F := F)) 𝒱 (SparseCore.T d) Set.univ none (Prog.lift (.customCall (Pipeline.entry p) ())) Q)
  iapply h
  isplitl [H]
  · rw [wp_ret]
    iintro Hp
    imodintro
    iapply H; iexact Hp
  iexact Hrest

/-! ## The TensorCore's buffers -/

/-- The buffers of the TensorCore that last through the program. -/
def lasting : Finset (DevRef τ sig) := (tcRefs τ sig).filter fun b => ¬ b.isScoped

theorem lasting_unscoped (d : Dev nD) (W : Valuation τ sig (Elt F)) :
    (unscopedBufs d (fun b => W (Proc.devRef .tc b)) : sProp 𝕄) = held (SparseCore.T d) lasting W := by
  unfold unscopedBufs held lasting tcRefs
  rw [Finset.filter_map, bigSep_map]
  rfl

theorem bufs_lasting : ∀ op ∈ opsBefore (F := F), op.bufs ⊆ lasting := fun op hop b hb =>
  Finset.mem_filter.2 ⟨(List.forall_iff_forall_mem.mp (show (opsBefore (F := F)).Forall fun op => op.bufs ⊆ tcRefs τ sig by
    simp [opsBefore]) op hop) hb, by simp [op.no_scoped b hb]⟩

theorem fresh_none : ∀ op ∈ opsBefore (F := F), op.fresh = ∅ := by
  rw [← List.forall_iff_forall_mem]
  exact ⟨rfl, rfl, rfl, rfl, rfl, rfl, rfl, rfl, rfl, rfl, rfl⟩

/-- The buffers that last, one by one. -/
theorem lasting_eq (d : Dev nD) (W : Valuation τ sig (Elt F)) :
    (held (SparseCore.T d) lasting W : sProp 𝕄) = iprop(((SparseCore.T d).loc main_arg0 ↦{fullShare} W (Proc.devRef .tc main_arg0))
      ∗ ((SparseCore.T d).loc main_arg1 ↦{fullShare} W (Proc.devRef .tc main_arg1)) ∗ ((SparseCore.T d).loc main_arg2 ↦{fullShare} W (Proc.devRef .tc main_arg2))
      ∗ ((SparseCore.T d).loc main_arg3 ↦{fullShare} W (Proc.devRef .tc main_arg3)) ∗ ((SparseCore.T d).loc main_arg4 ↦{fullShare} W (Proc.devRef .tc main_arg4))
      ∗ (iLoc d ↦{fullShare} W (Proc.devRef .tc main_v5)) ∗ (pLoc d ↦{fullShare} W (Proc.devRef .tc main_v7)) ∗ (eLoc d ↦{fullShare} W (Proc.devRef .tc main_v8))
      ∗ (tLoc d ↦{fullShare} W (Proc.devRef .tc main_v9)) ∗ (oLoc d ↦{fullShare} W (Proc.devRef .tc main_v10)) ∗ (wLoc d ↦{fullShare} W (Proc.devRef .tc main_v11))
      ∗ (bLoc d ↦{fullShare} W (Proc.devRef .tc main_v12)) ∗ (sLoc d ↦{fullShare} W (Proc.devRef .tc main_v13))
      ∗ ((SparseCore.T d).loc main_v14 ↦{fullShare} W (Proc.devRef .tc main_v14))
      ∗ ((SparseCore.T d).loc main_v0 ↦{fullShare} W (Proc.devRef .tc main_v0)) ∗ ((SparseCore.T d).loc main_c ↦{fullShare} W (Proc.devRef .tc main_c))
      ∗ ((SparseCore.T d).loc main_v1 ↦{fullShare} W (Proc.devRef .tc main_v1)) ∗ ((SparseCore.T d).loc main_v2 ↦{fullShare} W (Proc.devRef .tc main_v2))
      ∗ ((SparseCore.T d).loc main_c_0 ↦{fullShare} W (Proc.devRef .tc main_c_0)) ∗ ((SparseCore.T d).loc main_v3 ↦{fullShare} W (Proc.devRef .tc main_v3))
      ∗ ((SparseCore.T d).loc main_v4 ↦{fullShare} W (Proc.devRef .tc main_v4)) ∗ ((SparseCore.T d).loc main_v6 ↦{fullShare} W (Proc.devRef .tc main_v6))) := by
  rw [← lasting_unscoped]
  exact bigSep_eq_bigSepL_of_eq [main_arg0, main_arg1, main_arg2, main_arg3, main_arg4, main_v5, main_v7, main_v8, main_v9, main_v10,
      main_v11, main_v12, main_v13, main_v14, main_v0, main_c, main_v1, main_v2, main_c_0, main_v3, main_v4, main_v6] (by decide) (by decide) _

/-- The operations before the packing leave the arguments as they found them. -/
theorem ent_arg (d : Dev nD) (r : Ref sig .tc) (hr : r ∈ [main_arg0, main_arg1, main_arg2, main_arg3, main_arg4]) :
    ent m d (Proc.devRef .tc r) = m ((SparseCore.T d).loc r) := by
  refine StableHlo.after_of_writes_sub (W := [main_v0, main_c, main_v1, main_v2, main_c_0, main_v3, main_v4, main_v5, main_v6, main_v7, main_v8])
    (opsBefore (F := F)) (launchContents m d) ?_ ?_
  · simp [opsBefore]
  · revert r; decide

/-! ## The launch -/

/-- The ghost state of both pipelines on device `d`. -/
def ghosts (d : Dev nD) : sProp 𝕄 :=
  iprop((Pipeline.cellsGhost (Pipeline.pin (pcfgs (F := F)) adm) (EP (F := F)) 0 d ∗ Pipeline.cellsGhost (Pipeline.pin (pcfgs (F := F)) adm) (EP (F := F)) 1 d)
    ∗ (Pipeline.toksInit (Pipeline.pin (pcfgs (F := F)) adm) (EP (F := F)) 0 d ∗ Pipeline.toksInit (Pipeline.pin (pcfgs (F := F)) adm) (EP (F := F)) 1 d))

/-- The ghost element the launch starts from. -/
def u₀ : UU := (initOf (K (F := F)).hsCells (K (F := F)).hsToks,
  (initOf (Pipeline.cells (Pipeline.pin (pcfgs (F := F)) adm) cells_inj) (Pipeline.launchToks (Pipeline.pin (pcfgs (F := F)) adm) cells_inj), 1))

theorem two (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem emps {I : Type} (s : Finset I) : (bigSep s fun _ => iprop(emp)) = (iprop(emp) : sProp 𝕄) := bigSep_emp_const s

theorem launched : (ownU (u₀ (F := F)) : sProp 𝕄)
    ⊢ |={Set.univ}=> iprop(BI.own (EH (initOf (K (F := F)).hsCells (K (F := F)).hsToks)) ∗ (bigSep Finset.univ fun d : Dev nD => ghosts d)
        ∗ bigSep Finset.univ fun thr : Thread nD τ => bigSep Finset.univ fun q : Fin 1 => (P (rowIx m) (TO m)).x q thr) := by
  unfold u₀
  iintro Hu
  ihave H := (ownU_pair (initOf (K (F := F)).hsCells (K (F := F)).hsToks)
    ((initOf (Pipeline.cells (Pipeline.pin (pcfgs (F := F)) adm) cells_inj) (Pipeline.launchToks (Pipeline.pin (pcfgs (F := F)) adm) cells_inj), (1 : Counters)) : UP × Counters)) $$ Hu
  icases H with ⟨HH, HP⟩
  ihave HG := (Pipeline.fund_ghost (Pipeline.pin (pcfgs (F := F)) adm) (EP (F := F)) cells_inj) $$ [HP]
  · iexact HP
  imod HG
  icases HG with ⟨Hc, Ht⟩
  imodintro
  isplitl [HH]; · iexact HH
  isplitl [Hc Ht]
  · unfold ghosts
    rw [bigSep_sep']
    isplitl [Hc]
    · rw [show (bigSep Finset.univ fun d : Dev nD => iprop(Pipeline.cellsGhost (Pipeline.pin (pcfgs (F := F)) adm) (EP (F := F)) 0 d ∗ Pipeline.cellsGhost (Pipeline.pin (pcfgs (F := F)) adm) (EP (F := F)) 1 d) : sProp 𝕄)
        = bigSep Finset.univ fun d : Dev nD => bigSep Finset.univ fun p => Pipeline.cellsGhost (Pipeline.pin (pcfgs (F := F)) adm) (EP (F := F)) p d from bigSep_congr fun d _ => (two fun p => Pipeline.cellsGhost (Pipeline.pin (pcfgs (F := F)) adm) (EP (F := F)) p d).symm]
      iexact Hc
    · rw [show (bigSep Finset.univ fun d : Dev nD => iprop(Pipeline.toksInit (Pipeline.pin (pcfgs (F := F)) adm) (EP (F := F)) 0 d ∗ Pipeline.toksInit (Pipeline.pin (pcfgs (F := F)) adm) (EP (F := F)) 1 d) : sProp 𝕄)
        = bigSep Finset.univ fun d : Dev nD => bigSep Finset.univ fun p => Pipeline.toksInit (Pipeline.pin (pcfgs (F := F)) adm) (EP (F := F)) p d from bigSep_congr fun d _ => (two fun p => Pipeline.toksInit (Pipeline.pin (pcfgs (F := F)) adm) (EP (F := F)) p d).symm]
      iexact Ht
  · rw [show (bigSep Finset.univ fun thr : Thread nD τ => bigSep Finset.univ fun q : Fin 1 => (P (F := F) (rowIx m) (TO m)).x q thr) = bigSep Finset.univ fun _ => iprop(emp) from
      bigSep_congr fun _ _ => bigSep_univ_of_subsingleton (0 : Fin 1), emps]
    iempintro

/-! ## The program on the TensorCore -/

/-- What the TensorCore ends with: the arguments as they were, and a result that is right. -/
def FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_arg4 ↦{fullShare} m ((SparseCore.T d).loc main_arg4))
    ∗ ∃ r, ⌜ResultOK m d r⌝ ∗ ((SparseCore.T d).loc main_v14 ↦{fullShare} r))

variable [∀ e, Nonempty (Elt F e)]

/-- What the TensorCore owes before call `n`. -/
def debt (d : Dev nD) (n : ℕ) : sProp 𝕄 := iprop(∃ W, ⌜(K (F := F)).WBelow (SparseCore.T d) W (8 * n)⌝ ∗ owes (SparseCore.T d) ((K (F := F)).Otc d n) W)

theorem tcSt_eq (d : Dev nD) (n : ℕ) : ∃ R : sProp 𝕄, (K (F := F)).tcSt EH d n = iprop(debt d n ∗ R) := ⟨_, rfl⟩

/-- The call, in what the TensorCore owes and the rest of its state. -/
theorem call_run {R₀ R₁ : sProp 𝕄} (κ : GSem nD τ sig → ℕ) (d : Dev nD) (h₀ : (K (F := F)).tcSt EH d 0 = iprop(debt d 0 ∗ R₀))
    (h₁ : (K (F := F)).tcSt EH d 1 = iprop(debt d 1 ∗ R₁)) (Tb : Buf (Elt F) (tLoc d)) (hT : TO m d Tb) (f : Buf (Elt F) (oLoc d)) (Q : PUnit → sProp 𝕄) :
    iprop((K (F := F)).ctx EH (P (rowIx m) (TO m)) κ ∗ (debt d 0 ∗ R₀) ∗ ((tLoc d ↦{fullShare} Tb) ∗ (iLoc d ↦{fullShare} rowIx m d) ∗ oLoc d ↦{fullShare} f)
        ∗ (iprop((debt d 1 ∗ R₁) ∗ ∃ g, ⌜∀ x, ∃ Tb, TO m d Tb ∧ GatheredAt (rowIx m) d Tb g x⌝ ∗ oLoc d ↦{fullShare} g) -∗ Q ⟨⟩))
      ⊢ wp frame (wpE ((K (F := F)).defs (D (F := F))) 𝒱 (SparseCore.T d) none) Set.univ ((K (F := F)).run d 0) Q := by
  refine BIBase.Entails.trans ?_ ((K (F := F)).wp_run (D (F := F)) 𝒱 (EH := EH) (P := P (rowIx m) (TO m)) κ d 0)
  show _ ⊢ iprop((K (F := F)).ctx EH (P (rowIx m) (TO m)) κ ∗ (K (F := F)).tcSt EH d 0
    ∗ (bigSep Finset.univ fun c : Fin ((K (F := F)).nCore 0) => (P (rowIx m) (TO m)).st 0 d c)
    ∗ (((K (F := F)).tcSt EH d 1 ∗ bigSep Finset.univ fun c : Fin ((K (F := F)).nCore 0) => (P (rowIx m) (TO m)).dn 0 d c) -∗ Q ⟨⟩))
  rw [h₀, h₁]
  iintro ⟨Hctx, Hst, H, Hk⟩
  isplitl [Hctx]; · iexact Hctx
  isplitl [Hst]; · iexact Hst
  isplitl [H]
  · iapply (split (rowIx m) (TO m) d Tb hT f); iexact H
  iintro ⟨Hst, Hdn⟩
  iapply Hk
  isplitl [Hst]; · iexact Hst
  iapply (join (rowIx m) (TO m) d); iexact Hdn

theorem pack_pre (d : Dev nD) (V8 : (d : Dev nD) → Buf (Elt F) (eLoc d)) (V9 : (d : Dev nD) → Buf (Elt F) (tLoc d)) :
    (packSeg V8 V9).pre d = iprop(debt d 0 ∗ (eLoc d ↦{fullShare} V8 d) ∗ (tLoc d ↦{fullShare} V9 d)) := rfl
theorem pack_post (d : Dev nD) (V8 : (d : Dev nD) → Buf (Elt F) (eLoc d)) (V9 : (d : Dev nD) → Buf (Elt F) (tLoc d)) :
    (packSeg V8 V9).post d = iprop(debt d 0 ∗ (eLoc d ↦{fullShare} V8 d) ∗ ∃ T, ⌜Packed V8 V9 d T⌝ ∗ (tLoc d ↦{fullShare} T)) := rfl
theorem head_pre (d : Dev nD) (G : (d : Dev nD) → Buf (Elt F) (oLoc d)) (P7 : (d : Dev nD) → Buf (Elt F) (pLoc d)) (W11 : (d : Dev nD) → Buf (Elt F) (wLoc d))
    (B12 : (d : Dev nD) → Buf (Elt F) (bLoc d)) (V13 : (d : Dev nD) → Buf (Elt F) (sLoc d)) :
    (headSeg G P7 W11 B12 V13).pre d = iprop(debt d 1 ∗ (oLoc d ↦{fullShare} G d) ∗ (pLoc d ↦{fullShare} P7 d) ∗ (wLoc d ↦{fullShare} W11 d)
      ∗ (bLoc d ↦{fullShare} B12 d) ∗ (sLoc d ↦{fullShare} V13 d)) := rfl
theorem head_post (d : Dev nD) (G : (d : Dev nD) → Buf (Elt F) (oLoc d)) (P7 : (d : Dev nD) → Buf (Elt F) (pLoc d)) (W11 : (d : Dev nD) → Buf (Elt F) (wLoc d))
    (B12 : (d : Dev nD) → Buf (Elt F) (bLoc d)) (V13 : (d : Dev nD) → Buf (Elt F) (sLoc d)) :
    (headSeg G P7 W11 B12 V13).post d = iprop(debt d 1 ∗ ∃ f, ⌜Scored G P7 W11 B12 V13 d f⌝ ∗ (sLoc d ↦{fullShare} f)) := rfl

/-- The scores by sentence, as the last operation leaves them. -/
theorem result_eq (d : Dev nD) (f : Buf (Elt F) (sLoc d)) :
    (opResult (F := F)).result (Function.update (ent m d) (Proc.devRef .tc main_v13) f) (Proc.devRef .tc main_v14)
      = (shapeCast S32x16x100000 (f : Vec F S512x100000 .f32) shapeCasts_S512x100000_S32x16x100000 : Buf (Elt F) ((SparseCore.T (nD := nD) (τ := τ) d).loc main_v14)) := by
  unfold opResult
  rw [StableHlo.reshape_result]
  funext i
  show shapeCast _ (Function.update (ent m d) (Proc.devRef .tc main_v13) f (Proc.devRef .tc main_v13)) _ i = _
  rw [Function.update_self]
  rfl

theorem main_run (κ : GSem nD τ sig → ℕ) (d : Dev nD) :
    iprop((K (F := F)).ctx EH (P (rowIx m) (TO m)) κ ∗ (K (F := F)).tcSt EH d 0 ∗ (K (F := F)).tcRes m ρ d ∗ ghosts d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd ghosts
  rw [main_eq, show (unscopedBufs d (fun b => m ((SparseCore.T d).loc b)) : sProp 𝕄) = held (SparseCore.T d) lasting (launchContents m d) from
    lasting_unscoped d (launchContents m d)]
  obtain ⟨R₀, h₀⟩ := tcSt_eq (F := F) d 0
  obtain ⟨R₁, h₁⟩ := tcSt_eq (F := F) d 1
  rw [h₀, h₁]
  iintro ⟨#Hctx, Hst, ⟨Hb, Hheld, Hts, -⟩, ⟨⟨Hc0, Hc1⟩, Ht0, Ht1⟩⟩
  ihave #Hlev := (SparseCore.Cfg.ctx_levAts κ) $$ Hctx
  iapply (StableHlo.wp_seq 𝒱 none Set.univ d lasting _ (opsBefore (F := F)) bufs_lasting fresh_none (launchContents m d)) $$ [Hb Hheld]
  · isplitl [Hb] <;> iassumption
  iintro ⟨Hb, Hheld⟩
  ihave Hh := (Entails.of_eq (lasting_eq d (ent m d))) $$ [Hheld]
  · iexact Hheld
  icases Hh with ⟨Ha0, Ha1, Ha2, Ha3, Ha4, Hi, Hp, He, Ht, Ho, Hw, Hbr, Hs, Hr, -⟩
  simp only [wp_bind, wp_pure]
  -- the packing
  icases Hst with ⟨Howe, Hrest⟩
  iapply (pipeline_run (packSeg (tableT m) (packed₀ m)) d)
  rw [pack_pre, pack_post]
  isplitr [Hb Howe He Ht Hc0 Ht0]
  swap
  · isplitl [Hb]; · iexact Hb
    isplitl [Howe He Ht]
    · isplitl [Howe]; · iexact Howe
      isplitl [He]; · iexact He
      iexact Ht
    isplitr; · iexact Hlev
    isplitl [Hc0]; · iexact Hc0
    iexact Ht0
  iintro ⟨Hb, Howe, He, %Tb, %hTb, Ht⟩
  -- the gather
  iapply (call_run m κ d h₀ h₁ Tb hTb (ent m d (Proc.devRef .tc main_v10)))
  isplitr; · iexact Hctx
  isplitl [Howe Hrest]
  · isplitl [Howe]; · iexact Howe
    iexact Hrest
  isplitl [Ht Hi Ho]
  · isplitl [Ht]; · iexact Ht
    isplitl [Hi]; · iexact Hi
    iexact Ho
  iintro ⟨⟨Howe, Hrest⟩, %g, %hg, Ho⟩
  obtain ⟨G, rfl⟩ : ∃ G : (d : Dev nD) → Buf (Elt F) (oLoc d), G d = g := ⟨fun d' => Subsingleton.elim d d' ▸ g, rfl⟩
  -- the operations before the scores
  iapply (host_one d (opWeights (F := F)) main_arg3 main_v11 (by decide) (Finset.Subset.refl _) rfl (ent m d) (by refine StableHlo.unary_result_ne _ _ _ _ _ _ ?_; decide))
  isplitl [Hb]; · iexact Hb
  isplitl [Ha3]; · iexact Ha3
  isplitl [Hw]; · iexact Hw
  iintro ⟨Hb, Ha3, Hw⟩
  iapply (host_one d (opBias (F := F)) main_arg4 main_v12 (by decide) (Finset.Subset.refl _) rfl (ent m d) (by refine StableHlo.reshape_result_ne _ _ _ _ _ _ _ ?_; decide))
  isplitl [Hb]; · iexact Hb
  isplitl [Ha4]; · iexact Ha4
  isplitl [Hbr]; · iexact Hbr
  iintro ⟨Hb, Ha4, Hbr⟩
  -- the scores
  iapply (pipeline_run (headSeg G (parity m) (weightsT m) (biasRow m) (scores₀ m)) d)
  rw [head_pre, head_post]
  isplitr [Hb Howe Ho Hp Hw Hbr Hs Hc1 Ht1]
  swap
  · isplitl [Hb]; · iexact Hb
    isplitl [Howe Ho Hp Hw Hbr Hs]
    · isplitl [Howe]; · iexact Howe
      isplitl [Ho]; · iexact Ho
      isplitl [Hp]; · iexact Hp
      isplitl [Hw]; · iexact Hw
      isplitl [Hbr]; · iexact Hbr
      iexact Hs
    isplitr; · iexact Hlev
    isplitl [Hc1]; · iexact Hc1
    iexact Ht1
  iintro ⟨Hb, Howe, %f, %hf, Hs⟩
  -- the scores by sentence
  iapply (host_one d (opResult (F := F)) main_v13 main_v14 (by decide) (Finset.Subset.refl _) rfl (Function.update (ent m d) (Proc.devRef .tc main_v13) f)
    (by refine StableHlo.reshape_result_ne _ _ _ _ _ _ _ ?_; decide))
  rw [result_eq, Function.update_self, Function.update_of_ne (StableHlo.devRef_ne_of_ne (by decide))]
  isplitl [Hb]; · iexact Hb
  isplitl [Hs]; · iexact Hs
  isplitl [Hr]; · iexact Hr
  iintro ⟨Hb, -, Hr⟩
  imodintro
  isplitl [Howe Hrest]
  · isplitl [Howe]; · iexact Howe
    iexact Hrest
  isplitr [Hb Hts]
  · unfold FIN
    rw [← ent_arg m d main_arg0 (by decide), ← ent_arg m d main_arg1 (by decide), ← ent_arg m d main_arg2 (by decide), ← ent_arg m d main_arg3 (by decide),
      ← ent_arg m d main_arg4 (by decide)]
    isplitl [Ha0]; · iexact Ha0
    isplitl [Ha1]; · iexact Ha1
    isplitl [Ha2]; · iexact Ha2
    isplitl [Ha3]; · iexact Ha3
    isplitl [Ha4]; · iexact Ha4
    iexists _
    isplitr
    · ipureintro; exact ⟨G, f, hg, hf, rfl⟩
    iexact Hr
  isplitl [Hb] <;> iassumption

end Cert.Proof.Lookup

end
-- ==== Proof.Frames.lean ====
/-
  What every run of the program ends in, under the precondition: the arguments unchanged, every semaphore at zero, and a
  result that is right.
-/
module

public import proofs.«01_k».proof.Proof.Run
public import proofs.«01_k».proof.Defs
public import proofs.«01_k».proof.Proof.Gen.Kernel
public import proofs.«01_k».proof.Proof.Gen.Pre_in_range
public import Idealize.ShloMosaic.Lib.ReduceAll

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay)
open Idealize.ShloMosaic.StableHlo (after held tcRefs seq launchContents)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The row numbers -/

/-- The tokens' numbers. -/
def ids (d : Dev nD) : IVec S32x16 32 := m ((SparseCore.T d).loc main_arg0)

/-- Every token's number is one of the table's hundred thousand rows. -/
def InRange : Prop := ∀ d z, (ids m d z).toNat < 100000

/-- The tokens' numbers in one line. -/
def flatIds (d : Dev nD) : IVec S512 32 := shapeCast S512 (ids m d) shapeCasts_S32x16_S512

theorem flatIds_lt (h : InRange m) (d : Dev nD) (z : S512.Idx) : (flatIds m d z).toNat < 100000 := h d _

theorem rowIx_eq (d : Dev nD) : (rowIx m d : IVec S512 32)
    = select (cmpi .sge (flatIds m d) (broadcastInDim S512 ![] bcast_S_S512 (constantI S_ 32 50176#32)))
        (subi (flatIds m d) (broadcastInDim S512 ![] bcast_S_S512 (constantI S_ 32 50176#32))) (flatIds m d) := by
  unfold rowIx ent opsBefore
  after_results_simp
  rfl

/-- A token's row of the packed table. -/
theorem rowIx_at (h : InRange m) (d : Dev nD) (z : S512.Idx) :
    (rowIx m d z).toNat = if 50176 ≤ (flatIds m d z).toNat then (flatIds m d z).toNat - 50176 else (flatIds m d z).toNat := by
  rw [rowIx_eq]
  have hz := flatIds_lt m h d z
  generalize hv : flatIds m d z = v at hz
  show (Scalar.select (IntOp.cmpi .sge (flatIds m d z) 50176#32) (IntOp.subi (flatIds m d z) 50176#32) (flatIds m d z)).toNat = _
  rw [hv]
  by_cases hc : 50176 ≤ v.toNat
  · rw [if_pos hc, show IntOp.cmpi .sge v 50176#32 = 1#1 by
      simp only [IntOp.cmpi, BitVec.sle_eq_decide, BitVec.toInt_eq_toNat_cond, BitVec.toNat_ofNat, Nat.reducePow, Nat.reduceMod]
      rw [decide_eq_true (by omega)]; rfl]
    show (v - 50176#32).toNat = _
    rw [BitVec.toNat_sub]
    simp only [BitVec.toNat_ofNat, Nat.reducePow, Nat.reduceMod]
    omega
  · rw [if_neg hc, show IntOp.cmpi .sge v 50176#32 = 0#1 by
      simp only [IntOp.cmpi, BitVec.sle_eq_decide, BitVec.toInt_eq_toNat_cond, BitVec.toNat_ofNat, Nat.reducePow, Nat.reduceMod]
      rw [decide_eq_false (by omega)]; rfl]
    rfl

theorem rows_in_range (h : InRange m) : RowsInRange (rowIx m) := fun d z => by
  rw [rowIx_at m h d z]
  have := flatIds_lt m h d z
  split <;> omega

/-! ## The end of a run -/

/-- What is known of the memory a run ends in. -/
def Ended (d : Dev nD) (mem : (ℓ : Loc nD τ sig) → Buf (Elt F) ℓ) : Prop :=
  (mem ((SparseCore.T d).loc main_arg0) = m ((SparseCore.T d).loc main_arg0) ∧ mem ((SparseCore.T d).loc main_arg1) = m ((SparseCore.T d).loc main_arg1)
    ∧ mem ((SparseCore.T d).loc main_arg2) = m ((SparseCore.T d).loc main_arg2) ∧ mem ((SparseCore.T d).loc main_arg3) = m ((SparseCore.T d).loc main_arg3)
    ∧ mem ((SparseCore.T d).loc main_arg4) = m ((SparseCore.T d).loc main_arg4)) ∧ ResultOK m d (mem ((SparseCore.T d).loc main_v14))

theorem agree (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro ⟨HSI, Hf⟩
  ihave H := (persistent_entails_right (SI_pointsTo_agree (st := s') (ℓ := ℓ) (I := Finset.univ) (q := fullShare) (f := f))) $$ [HSI Hf]
  · isplitl [HSI] <;> iassumption
  icases H with ⟨%h1, HSI, -⟩
  isplitr
  · ipureintro; exact funext fun i => h1 i (Finset.mem_univ i)
  iexact HSI

theorem ended (d : Dev nD) (s' : Phys nD τ sig (Elt F)) : iprop(FIN m d ∗ SI s') ⊢ (⌜Ended m d s'.mem.mem⌝ : sProp 𝕄) := by
  unfold FIN
  iintro ⟨⟨H0, H1, H2, H3, H4, %r, %hr, Hr⟩, HSI⟩
  ihave H := (agree s' _ _) $$ [HSI H0]
  · isplitl [HSI] <;> iassumption
  icases H with ⟨%h0, HSI⟩
  ihave H := (agree s' _ _) $$ [HSI H1]
  · isplitl [HSI] <;> iassumption
  icases H with ⟨%h1, HSI⟩
  ihave H := (agree s' _ _) $$ [HSI H2]
  · isplitl [HSI] <;> iassumption
  icases H with ⟨%h2, HSI⟩
  ihave H := (agree s' _ _) $$ [HSI H3]
  · isplitl [HSI] <;> iassumption
  icases H with ⟨%h3, HSI⟩
  ihave H := (agree s' _ _) $$ [HSI H4]
  · isplitl [HSI] <;> iassumption
  icases H with ⟨%h4, HSI⟩
  ihave H := (agree s' _ _) $$ [HSI Hr]
  · isplitl [HSI] <;> iassumption
  icases H with ⟨%h5, HSI⟩
  ipureintro
  exact ⟨⟨h0, h1, h2, h3, h4⟩, by rw [h5]; exact hr⟩

/-- Every run ends, with the arguments unchanged, the result right, and every semaphore at zero. -/
theorem run_all [∀ e, Nonempty (Elt F e)] (h : InRange m) :
    θ_run (Cert.KernelIdeal.defs (F := F)) (Cert.KernelIdeal.threads (F := F)) ⟨m, fun _ => 0, ρ⟩
      (fun r => (∀ d : Dev nD, Ended m d r.2.mem) ∧ r.2.sem = fun _ => 0) :=
  SparseCore.Cfg.θ_run_sc_quiescent (K := K (F := F)) (D := D (F := F)) (𝒱 := 𝒱) (EH := EH) (P := P (rowIx m) (TO m)) (A := ∅) facts v₀
    (fun q hq => match q with | 0 => nomatch hq)
    (fun q _ => match q with | 0 => tileObl (rowIx m) (TO m) (rows_in_range m h))
    (fun q _ => match q with | 0 => SparseCore.Cfg.VecSplit.of_plain (vecSplit (rowIx m) (TO m)))
    m ρ main (fun d => ghosts d) (FIN m) (u₀ (F := F)) (sep_elim_left.trans (launched m)) (main_run m ρ) (fun d s' => Ended m d s'.mem.mem) (ended m)
    (fun r => (∀ d : Dev nD, Ended m d r.2.mem) ∧ r.2.sem = fun _ => 0) (fun _ h hz => ⟨h, hz⟩)

/-! ## The precondition, and the frames -/

/-- The precondition, as computed, says that every token's number is in range. -/
theorem in_range_of (x0 x1 : IVec Cert.Pre_in_range.S32x16 32) (x2 x3 : FVec F Cert.Pre_in_range.S100000x64 .f32) (x4 : FVec F Cert.Pre_in_range.S100000 .f32)
    (e : Cert.Pre_in_range.fn x0 x1 x2 x3 x4 = fun _ => 1#1) (z : Cert.Pre_in_range.S32x16.Idx) : (x0 z).toNat < 100000 := by
  have key : ∀ v : BitVec 32, IntOp.andi (IntOp.cmpi .sge v 0#32) (IntOp.cmpi .slt v 100000#32) = 1#1 → v.toNat < 100000 := by
    intro v e
    have both (p q : Bool) : IntOp.andi (BitVec.ofBool p) (BitVec.ofBool q) = 1#1 → p = true ∧ q = true := by cases p <;> cases q <;> decide
    obtain ⟨h₁, h₂⟩ := both _ _ e
    simp only [BitVec.sle_eq_decide, BitVec.slt_eq_decide, decide_eq_true_eq, BitVec.toInt_eq_toNat_cond, BitVec.toNat_ofNat, Nat.reducePow, Nat.reduceMod] at h₁ h₂
    omega
  have e0 := congrFun e (fun k => nomatch k)
  dsimp only [Cert.Pre_in_range.fn] at e0
  exact key _ (Host.reduce_andi_all _ _ _ _ _ e0 z)

/-- Every run leaves the arguments as they were and every semaphore at zero, whatever the floats are. -/
theorem frame_any [∀ e, Nonempty (Elt F e)] (h : InRange m) :
    θ_run (Cert.KernelIdeal.defs (F := F)) (Cert.KernelIdeal.threads (F := F)) ⟨m, fun _ => 0, ρ⟩
      (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
  (θ_run Cert.KernelIdeal.defs _ _).mono (fun _ h => ⟨fun c => (h.1 c).1, h.2⟩) (run_all m ρ h)

/-- The idealized program's frame. -/
theorem frame_ideal : Cert.quiescent_KernelIdeal := fun m ρ hpre =>
  frame_any (F := Ideal) m ρ fun d z => in_range_of _ _ _ _ _ (hpre d) z

/-! ## The same program at the machine's floats -/

set_option maxHeartbeats 1000000 in
/-- The two programs' kernels are the same. -/
theorem bodies_same : (Cert.Kernel.defs₀ (F := F)) = Cert.KernelIdeal.defs₀ (F := F) := by
  funext k ℓ a
  cases k <;> fin_cases ℓ <;> rfl

/-- The two programs' tables are the same. -/
theorem defs_same : (Cert.Kernel.defs (F := F)) = Cert.KernelIdeal.defs (F := F) := by
  unfold Cert.Kernel.defs Cert.KernelIdeal.defs
  rw [bodies_same]
  rfl

/-- The program's frame. -/
theorem frame_kernel : Cert.quiescent_Kernel := fun m ρ hpre => by
  have h := frame_any (F := Bits) m ρ fun d z => in_range_of _ _ _ _ _ (hpre d) z
  rw [← defs_same] at h
  exact h

end Cert.Proof.Lookup

end
-- ==== Proof.Blocks.lean ====
/-
  What the two bodies compute, element by element, over the extended reals: the product with the unit matrix turns a block, and
  the last product is the sum over the columns of a row, with the bias added.
-/
module

public import proofs.«01_k».proof.Proof.Head
public import Idealize.ShloMosaic.Lib.Pointwise
public import Idealize.ShloMosaic.Lib.IdealHost
public import Idealize.ShloMosaic.Lib.Tactic.CleanTypes

@[expose] public section

noncomputable section

namespace Cert.Proof.Lookup

open Cert.KernelIdeal Cert.KernelIdeal.Gen
open Idealize.ShloMosaic Idealize.ShloMosaic.TcCoe Idealize.ShloMosaic.Tactic

/-- The matrix that the first body builds is the unit matrix. -/
theorem unit_at (k j : Fin 64) : k0_pay1 (F := Ideal) (ix2 k j) = if k = j then 1 else 0 := by
  unfold k0_pay1
  pointwise
  by_cases h : k = j
  · subst h
    rw [if_pos rfl, show IntOp.cmpi CmpIPredicate.eq (IntOp.addi (BitVec.ofNat 32 k.val) 0#32) (BitVec.ofNat 32 k.val) = 1#1 from by
      unfold IntOp.cmpi IntOp.addi; simp]
    show (((BitVec.setWidth 32 1#1).toInt : ℝ) : EReal) = 1
    simp
  · have hk := k.isLt
    have hj := j.isLt
    rw [if_neg h, show IntOp.cmpi CmpIPredicate.eq (IntOp.addi (BitVec.ofNat 32 k.val) 0#32) (BitVec.ofNat 32 j.val) = 0#1 from by
      have hne : BitVec.ofNat 32 k.val ≠ BitVec.ofNat 32 j.val := fun e => h (Fin.ext (by
        have := congrArg BitVec.toNat e
        rw [BitVec.toNat_ofNat, BitVec.toNat_ofNat] at this
        omega))
      unfold IntOp.cmpi IntOp.addi; rw [BitVec.add_zero]; exact congrArg BitVec.ofBool (beq_false_of_ne hne)]
    show (((BitVec.setWidth 32 0#1).toInt : ℝ) : EReal) = 0
    simp

/-- The product with it turns the block: rows become columns. -/
theorem turned_at (a : Vec Ideal S64x1024 .f32) (r : Fin 1024) (c : Fin 64) : k0_pay2 (F := Ideal) a (ix2 r c) = a (ix2 c r) := by
  unfold k0_pay2
  pointwise
  rw [Finset.sum_eq_single c]
  · rw [unit_at, if_pos rfl]; exact mul_one _
  · intro x _ hx; rw [unit_at, if_neg hx]; exact mul_zero _
  · intro h; exact absurd (Finset.mem_univ c) h

/-- So, with the two halves side by side, a column of the left half is a row of the first block; -/
theorem packed_left (a b : Vec Ideal S64x1024 .f32) (x : S1024x128.Idx) (c : Fin 64) (h : (x 1).val = c.val) : packed a b x = a (ix2 c (x 0)) := by
  have hc := c.isLt
  unfold packed
  rw [dif_pos (by omega)]
  refine Eq.trans ?_ (turned_at a (x 0) c)
  exact congrArg (k0_pay2 a) (funext fun | 0 => rfl | 1 => Fin.ext h)

/-- and one of the right half is a row of the second. -/
theorem packed_right (a b : Vec Ideal S64x1024 .f32) (x : S1024x128.Idx) (c : Fin 64) (h : (x 1).val = 64 + c.val) : packed a b x = b (ix2 c (x 0)) := by
  unfold packed
  rw [dif_neg (by omega)]
  refine Eq.trans ?_ (turned_at b (x 0) c)
  exact congrArg (k0_pay2 b) (funext fun | 0 => rfl | 1 => Fin.ext (by show (x 1).val - 64 = c.val; omega))

/-- The threshold that the last body compares the parities with lies between zero and one. -/
theorem threshold : (Ideal.ofBits FTy.f32 1056964608#32 : EReal) = ((1 / 2 : ℝ) : EReal) := by
  simp [Ideal.ofBits, Ideal.ieee, -EReal.coe_mul]; norm_num

/-- The parity of row `r` names the half that starts at column `o`. -/
def Names (p : Vec Ideal S512x1 .f32) (r : Fin 512) (o : ℕ) : Prop := p (ix2 r 0) = 1 ∧ o = 64 ∨ p (ix2 r 0) = 0 ∧ o = 0

/-- An element of a product of rows and weights, over the half of the row that starts at column `o`, with the bias added. -/
def scoreOf {n : ℕ} (g : Vec Ideal S512x128 .f32) (w : Vec Ideal ⟨2, ![64, n]⟩ .f32) (b : Vec Ideal ⟨2, ![1, n]⟩ .f32) (o : ℕ) (ho : o ≤ 64) (r : Fin 512) (v : Fin n) : EReal :=
  (∑ h : Fin 64, (g (ix2 r ⟨o + h.val, by have := h.isLt; omega⟩) * w (ix2 h v) : EReal)) + b (ix2 0 v)

/-- An element of the block of the result: the sum over the columns of the half of the row that its parity names, and the bias. -/
theorem scored_at (g : Vec Ideal S512x128 .f32) (p : Vec Ideal S512x1 .f32) (w : Vec Ideal S64x4096 .f32) (b : Vec Ideal S1x4096 .f32) (r : Fin 512) (v : Fin 4096)
    (o : ℕ) (ho : o ≤ 64) (hp : Names p r o) : scored (F := Ideal) g p w b (ix2 r v) = scoreOf (n := 4096) g w b o ho r v := by
  unfold scored k2_pay1 half scoreOf
  unfold Names at hp
  pointwise
  refine congrArg (· + (b (ix2 0 v) : EReal)) (Finset.sum_congr rfl fun h _ => ?_)
  refine congrArg (· * (w (ix2 h v) : EReal)) ?_
  rw [threshold]
  rcases hp with ⟨hp, rfl⟩ | ⟨hp, rfl⟩
  · rw [hp, if_pos (by exact_mod_cast (by norm_num : (1 / 2 : ℝ) < 1))]
    exact congrArg g (funext fun | 0 => rfl | 1 => rfl)
  · rw [hp, if_neg (by exact_mod_cast (by norm_num : ¬ (1 / 2 : ℝ) < 0))]
    exact congrArg g (funext fun | 0 => rfl | 1 => Fin.ext (Nat.zero_add _).symm)

end Cert.Proof.Lookup

end
-- ==== Proof.Arrays.lean ====
/-
  What the two pipelines leave, element by element, over the extended reals: the packed table holds, in its left half, the first
  50176 columns of the transposed table and, in its right half, those that follow, as far as they go; and the last array holds,
  at every row and column, a sum of products and a bias.
-/
module

public import proofs.«01_k».proof.Proof.Blocks
public import Idealize.ShloMosaic.Lib.Pipeline.ArrRel

@[expose] public section

noncomputable section

namespace Cert.Proof.Lookup

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA

/-- An array whose flushed blocks cover it has a property, element by element, if all that the body may leave has it. -/
theorem arr_forall {cfg : Pipeline.Cfg sig Λ₀} {d : Dev nD} (rd : Pipeline.RDat τ (Elt Ideal) (HIx 1) ℕ UU ℕ cfg d) (w : Fin cfg.W)
    (P : ((cfg.win w).arr.view.loc (d.tc : Thread nD τ)).2.ty.Idx → Elt Ideal ((cfg.win w).arr.view.loc (d.tc : Thread nD τ)).2.ty.elt → Prop)
    (hcov : (cfg.win w).Covers) (harr : (cfg.win w).arr.IsWhole) {G : Buf (Elt Ideal) ((cfg.win w).arr.view.loc (d.tc : Thread nD τ))}
    (hP : ∀ t X, rd.Leaves w t X → ∀ y : ((cfg.win w).xblock (cfg.grid.coords t)).Idx,
      P (((cfg.win w).blk t).view.emb y) (_root_.cast (congrArg (Elt Ideal) ((cfg.win w).blk t).view.elt_eq.symm) (X ((cfg.win w).xinj (cfg.grid.coords t) y))))
    (hG : rd.ArrAt w cfg.N G) (i : ((cfg.win w).arr.view.loc (d.tc : Thread nD τ)).2.ty.Idx) : P i (G i) := by
  obtain ⟨X, hX, hA⟩ := hG.exists_exact
  have e := hA (Function.update (fun _ _ _ => Classical.arbitrary _) w X) fun u _ _ => by rw [Function.update_self]
  rw [e]
  refine Pipeline.Dat.arrAt_forall_of_covers _ w P hcov (fun t hf y => ?_) i harr
  rw [Pipeline.RDat.withAfter_after, Function.update_self]
  exact hP t (X t) (hX t t.isLt hf) y

theorem index0_0 : ∀ t : Fin cfg0.N, win0_0.index t = ![0, (grid0.coords t 0).val] := (by decide +kernel : ∀ t : Fin grid0.N, _)
theorem index0_1 : ∀ t : Fin cfg0.N, win0_1.index t = ![0, 49 + (grid0.coords t 0).val] := (by decide +kernel : ∀ t : Fin grid0.N, _)
theorem index0_2 : ∀ t : Fin cfg0.N, win0_2.index t = ![(grid0.coords t 0).val, 0] := (by decide +kernel : ∀ t : Fin grid0.N, _)

theorem moved0_0 : ∀ t : Fin cfg0.N, win0_0.xsize (grid0.coords t) 0 = 64 ∧ win0_0.xsize (grid0.coords t) 1 = 1024 :=
  (by decide +kernel : ∀ t : Fin grid0.N, _)
theorem moved0_1 : ∀ t : Fin cfg0.N, win0_1.xsize (grid0.coords t) 0 = 64
    ∧ win0_1.xsize (grid0.coords t) 1 = min 1024 (100000 - (50176 + (grid0.coords t 0).val * 1024)) := (by decide +kernel : ∀ t : Fin grid0.N, _)

/-- A block that was staged over something holds, where the transfer moved, what the array holds there. -/
theorem fill_at {G : Pipeline.Grid} (w : Pipeline.Window sig G) (i : G.Coords) {α : Type} (x : w.block.Idx → α) (g : (w.xblock i).Idx → α) (j : w.block.Idx)
    (hj : ∀ a, (j a).val < w.xsize i a) : w.fill i x g j = g fun a => ⟨(j a).val, hj a⟩ := by
  have := w.fill_xinj i x g fun a => ⟨(j a).val, hj a⟩
  exact this

/-- The first staged block: the columns from the block's own place on. -/
theorem left_at (V8 : (d : Dev nD) → Buf (Elt Ideal) (eLoc d)) (d : Dev nD) (t : Fin cfg0.N) (x : Vec Ideal S64x1024 .f32) (c : Fin 64) (r : Fin 1024)
    (z : Fin 100000) (hz : z.val = (grid0.coords t 0).val * 1024 + r.val) : left V8 d t x (ix2 c r) = V8 d (ix2 c z) := by
  refine (fill_at (cfg0.win 0) (cfg0.grid.coords t) x _ (ix2 c r) fun a => ?_).trans ?_
  · have h := moved0_0 t
    have hc := c.isLt
    have hr := r.isLt
    fin_cases a
    · exact lt_of_lt_of_eq hc h.1.symm
    · exact lt_of_lt_of_eq hr h.2.symm
  · refine congrArg (V8 d) (funext fun a => Fin.ext ?_)
    fin_cases a
    · blk_simp [index0_0]; rfl
    · blk_simp [index0_0]
      exact hz.symm

/-- The second: the columns 50176 further on, as far as they go. -/
theorem right_at (V8 : (d : Dev nD) → Buf (Elt Ideal) (eLoc d)) (d : Dev nD) (t : Fin cfg0.N) (x : Vec Ideal S64x1024 .f32) (c : Fin 64) (r : Fin 1024)
    (z : Fin 100000) (hz : z.val = 50176 + ((grid0.coords t 0).val * 1024 + r.val)) : right V8 d t x (ix2 c r) = V8 d (ix2 c z) := by
  refine (fill_at (cfg0.win 1) (cfg0.grid.coords t) x _ (ix2 c r) fun a => ?_).trans ?_
  · have h := moved0_1 t
    have hc := c.isLt
    have hr := r.isLt
    have hz' := z.isLt
    fin_cases a
    · exact lt_of_lt_of_eq hc h.1.symm
    · refine lt_of_lt_of_eq ?_ h.2.symm
      show r.val < _
      omega
  · refine congrArg (V8 d) (funext fun a => Fin.ext ?_)
    fin_cases a
    · blk_simp [index0_1]; rfl
    · blk_simp [index0_1]
      show (49 + (grid0.coords t 0).val) * 1024 + r.val = z.val
      omega

/-- What the packed table holds. -/
theorem packed_value (V8 : (d : Dev nD) → Buf (Elt Ideal) (eLoc d)) (V9 : (d : Dev nD) → Buf (Elt Ideal) (tLoc d)) (d : Dev nD) (Tb : Buf (Elt Ideal) (tLoc d))
    (h : Packed V8 V9 d Tb) (i : S50176x128.Idx) :
    (∀ (c : Fin 64) (z : Fin 100000), (i 1).val = c.val → z.val = (i 0).val → Tb i = V8 d (ix2 c z))
      ∧ (∀ (c : Fin 64) (z : Fin 100000), (i 1).val = 64 + c.val → z.val = 50176 + (i 0).val → Tb i = V8 d (ix2 c z)) := by
  refine arr_forall (packData V8 V9 d) 2 (fun (i : S50176x128.Idx) (v : Elt Ideal .f32) =>
    (∀ (c : Fin 64) (z : Fin 100000), (i 1).val = c.val → z.val = (i 0).val → v = V8 d (ix2 c z))
      ∧ (∀ (c : Fin 64) (z : Fin 100000), (i 1).val = 64 + c.val → z.val = 50176 + (i 0).val → v = V8 d (ix2 c z)))
    (by decide +kernel) (Memref.isWhole_whole _) (fun t X hX y => ?_) h i
  obtain ⟨Y, -, x1, x2, rfl⟩ := hX
  refine ⟨fun c z hc hz => ?_, fun c z hc hz => ?_⟩
  · blk_simp [index0_2] at hc hz
    exact (packed_left _ _ _ c hc).trans (left_at V8 d t x1 c _ z hz)
  · blk_simp [index0_2] at hc hz
    exact (packed_right _ _ _ c hc).trans (right_at V8 d t x2 c _ z hz)

theorem index2_0 : ∀ t : Fin cfg2.N, win2_0.index t = ![0, 0] := (by decide +kernel : ∀ t : Fin grid2.N, _)
theorem index2_1 : ∀ t : Fin cfg2.N, win2_1.index t = ![0, 0] := (by decide +kernel : ∀ t : Fin grid2.N, _)
theorem index2_2 : ∀ t : Fin cfg2.N, win2_2.index t = ![0, (grid2.coords t 0).val] := (by decide +kernel : ∀ t : Fin grid2.N, _)
theorem index2_3 : ∀ t : Fin cfg2.N, win2_3.index t = ![0, (grid2.coords t 0).val] := (by decide +kernel : ∀ t : Fin grid2.N, _)
theorem index2_4 : ∀ t : Fin cfg2.N, win2_4.index t = ![0, (grid2.coords t 0).val] := (by decide +kernel : ∀ t : Fin grid2.N, _)
theorem moved2_0 : ∀ t : Fin cfg2.N, win2_0.xsize (grid2.coords t) 0 = 512 ∧ win2_0.xsize (grid2.coords t) 1 = 128 :=
  (by decide +kernel : ∀ t : Fin grid2.N, _)
theorem moved2_1 : ∀ t : Fin cfg2.N, win2_1.xsize (grid2.coords t) 0 = 512 ∧ win2_1.xsize (grid2.coords t) 1 = 1 :=
  (by decide +kernel : ∀ t : Fin grid2.N, _)
theorem moved2_2 : ∀ t : Fin cfg2.N, win2_2.xsize (grid2.coords t) 0 = 64
    ∧ win2_2.xsize (grid2.coords t) 1 = min 4096 (100000 - (grid2.coords t 0).val * 4096) := (by decide +kernel : ∀ t : Fin grid2.N, _)
theorem moved2_3 : ∀ t : Fin cfg2.N, win2_3.xsize (grid2.coords t) 0 = 1
    ∧ win2_3.xsize (grid2.coords t) 1 = min 4096 (100000 - (grid2.coords t 0).val * 4096) := (by decide +kernel : ∀ t : Fin grid2.N, _)

section Staged

variable (G : (d : Dev nD) → Buf (Elt Ideal) (oLoc d)) (P7 : (d : Dev nD) → Buf (Elt Ideal) (pLoc d)) (W11 : (d : Dev nD) → Buf (Elt Ideal) (wLoc d))
  (B12 : (d : Dev nD) → Buf (Elt Ideal) (bLoc d)) (d : Dev nD) (t : Fin cfg2.N)

/-- The gathered rows are staged whole. -/
theorem rows_at (x : Vec Ideal S512x128 .f32) (r : Fin 512) (c : Fin 128) : rowsAt G d t x (ix2 r c) = G d (ix2 r c) := by
  refine (fill_at (cfg2.win 0) (cfg2.grid.coords t) x _ (ix2 r c) fun a => ?_).trans ?_
  · have h := moved2_0 t
    fin_cases a
    · exact lt_of_lt_of_eq r.isLt h.1.symm
    · exact lt_of_lt_of_eq c.isLt h.2.symm
  · refine congrArg (G d) (funext fun a => Fin.ext ?_)
    fin_cases a <;> blk_simp [index2_0] <;> exact Nat.zero_add _

/-- So are the parities. -/
theorem parity_at (x : Vec Ideal S512x1 .f32) (r : Fin 512) : parityAt P7 d t x (ix2 r 0) = P7 d (ix2 r 0) := by
  refine (fill_at (cfg2.win 1) (cfg2.grid.coords t) x _ (ix2 r 0) fun a => ?_).trans ?_
  · have h := moved2_1 t
    fin_cases a
    · exact lt_of_lt_of_eq r.isLt h.1.symm
    · exact lt_of_lt_of_eq Nat.one_pos h.2.symm
  · refine congrArg (P7 d) (funext fun a => Fin.ext ?_)
    fin_cases a
    · blk_simp [index2_1]
    · blk_simp [index2_1]; try rfl

/-- A block of weights is staged as far as the weights go. -/
theorem weights_at (x : Vec Ideal S64x4096 .f32) (h : Fin 64) (v : Fin 4096) (z : Fin 100000) (hz : z.val = (grid2.coords t 0).val * 4096 + v.val) :
    weightsAt W11 d t x (ix2 h v) = W11 d (ix2 h z) := by
  refine (fill_at (cfg2.win 2) (cfg2.grid.coords t) x _ (ix2 h v) fun a => ?_).trans ?_
  · have e := moved2_2 t
    have hv := v.isLt
    have hz' := z.isLt
    fin_cases a
    · exact lt_of_lt_of_eq h.isLt e.1.symm
    · refine lt_of_lt_of_eq ?_ e.2.symm
      show v.val < _
      omega
  · refine congrArg (W11 d) (funext fun a => Fin.ext ?_)
    fin_cases a <;> blk_simp [index2_2]
    · rfl
    · exact hz.symm

/-- So is a block of the bias. -/
theorem bias_at (x : Vec Ideal S1x4096 .f32) (v : Fin 4096) (z : Fin 100000) (hz : z.val = (grid2.coords t 0).val * 4096 + v.val) :
    biasAt B12 d t x (ix2 0 v) = B12 d (ix2 0 z) := by
  refine (fill_at (cfg2.win 3) (cfg2.grid.coords t) x _ (ix2 0 v) fun a => ?_).trans ?_
  · have e := moved2_3 t
    have hv := v.isLt
    have hz' := z.isLt
    fin_cases a
    · exact lt_of_lt_of_eq Nat.one_pos e.1.symm
    · refine lt_of_lt_of_eq ?_ e.2.symm
      show v.val < _
      omega
  · refine congrArg (B12 d) (funext fun a => Fin.ext ?_)
    fin_cases a <;> blk_simp [index2_3]
    · rfl
    · exact hz.symm

/-- What the body leaves, at an element that lies inside the last array. -/
theorem scored_block (x0 : Vec Ideal S512x128 .f32) (x1 : Vec Ideal S512x1 .f32) (x2 : Vec Ideal S64x4096 .f32) (x3 : Vec Ideal S1x4096 .f32)
    (r : Fin 512) (v : Fin 4096) (z : Fin 100000) (hz : z.val = (grid2.coords t 0).val * 4096 + v.val) (o : ℕ) (ho : o ≤ 64) (hp : Names (P7 d) r o) :
    scored (rowsAt G d start2 x0) (parityAt P7 d start2 x1) (weightsAt W11 d t x2) (biasAt B12 d t x3) (ix2 r v)
      = scoreOf (n := 100000) (G d) (W11 d) (B12 d) o ho r z := by
  rw [scored_at _ _ _ _ r v o ho (by unfold Names at hp ⊢; rw [parity_at]; exact hp)]
  unfold scoreOf
  rw [bias_at B12 d t x3 v z hz]
  refine congrArg (fun s : EReal => s + (show EReal from B12 d (ix2 0 z))) (Finset.sum_congr rfl fun h _ => ?_)
  rw [rows_at, weights_at W11 d t x2 h v z hz]

/-- What the last array holds, of rows whose parity names a half. -/
theorem scored_value (V13 : (d : Dev nD) → Buf (Elt Ideal) (sLoc d)) (f : Buf (Elt Ideal) (sLoc d)) (hf : Scored G P7 W11 B12 V13 d f)
    (i : S512x100000.Idx) (o : ℕ) (ho : o ≤ 64) (hp : Names (P7 d) (i 0) o) : f i = scoreOf (n := 100000) (G d) (W11 d) (B12 d) o ho (i 0) (i 1) := by
  refine arr_forall (headData G P7 W11 B12 V13 d) 4 (fun (i : S512x100000.Idx) (v : Elt Ideal .f32) => ∀ (o : ℕ) (ho : o ≤ 64),
      Names (P7 d) (i 0) o → v = scoreOf (n := 100000) (G d) (W11 d) (B12 d) o ho (i 0) (i 1))
    (by decide +kernel) (Memref.isWhole_whole _) (fun t X hX y o ho hp => ?_) hf i o ho hp
  obtain ⟨Y, -, x0, x1, x2, x3, rfl⟩ := hX
  have h0 : ((((cfg2.win 4).blk t).view.emb y : S512x100000.Idx) 0).val = (y 0).val := by blk_simp [index2_4]
  have h1 : ((((cfg2.win 4).blk t).view.emb y : S512x100000.Idx) 1).val = (grid2.coords t 0).val * 4096 + (y 1).val := by blk_simp [index2_4]
  have hv : (y 1).val < 4096 := lt_of_lt_of_le (y 1).isLt ((cfg2.win 4).xsize_le _ 1)
  generalize (((cfg2.win 4).blk t).view.emb y : S512x100000.Idx) = i at h0 h1 hp ⊢
  have e : (cfg2.win 4).xinj (cfg2.grid.coords t) y = ix2 (i 0) (⟨(y 1).val, hv⟩ : Fin 4096) := funext fun a => Fin.ext (by
    fin_cases a
    · exact h0.symm
    · rfl)
  rw [e]
  exact scored_block G P7 W11 B12 d t x0 x1 x2 x3 (i 0) ⟨(y 1).val, hv⟩ (i 1) h1 o ho hp

end Staged

end Cert.Proof.Lookup

end
-- ==== Proof.KernelValue.lean ====
/-
  The kernel's result, element by element, over the extended reals: the row of the table that the token's number names, times
  the weights, plus the bias.
-/
module

public import proofs.«01_k».proof.Proof.Frames
public import proofs.«01_k».proof.Proof.Arrays
public import Idealize.ShloMosaic.Lib.StableHlo.ReadAt

@[expose] public section

noncomputable section

namespace Cert.Proof.Lookup

open Cert.KernelIdeal Cert.KernelIdeal.Gen
open Idealize.ShloMosaic Idealize.ShloMosaic.Tactic
open Idealize.ShloMosaic.StableHlo (after launchContents)

variable (m : (ℓ : Loc nD τ sig) → Buf (Elt Ideal) ℓ)

/-- The embedding table, the weights and the bias. -/
def table (d : Dev nD) : Vec Ideal S100000x64 .f32 := m ((SparseCore.T d).loc main_arg2)
def weights (d : Dev nD) : Vec Ideal S100000x64 .f32 := m ((SparseCore.T d).loc main_arg3)
def bias (d : Dev nD) : Vec Ideal S100000 .f32 := m ((SparseCore.T d).loc main_arg4)

/-- The transposed table. -/
theorem tableT_at (d : Dev nD) (c : Fin 64) (z : Fin 100000) : tableT m d (ix2 c z) = table m d (ix2 z c) := by
  have e : (tableT m d : Vec Ideal S64x100000 .f32) = transpose S64x100000 [1, 0] (table m d) transposes_S100000x64_S64x100000_1_0 := by
    unfold tableT ent opsBefore
    after_results_simp
    rfl
  rw [e]
  pointwise

/-- The transposed weights. -/
theorem weightsT_at (d : Dev nD) (c : Fin 64) (z : Fin 100000) : weightsT m d (ix2 c z) = weights m d (ix2 z c) := by
  have e : (weightsT m d : Vec Ideal S64x100000 .f32) = transpose S64x100000 [1, 0] (weights m d) transposes_S100000x64_S64x100000_1_0 := by
    unfold weightsT opWeights
    rw [StableHlo.unary_result, ent_arg m d main_arg3 (by simp)]
    rfl
  rw [e]
  pointwise

/-- The bias as one row. -/
theorem biasRow_at (d : Dev nD) (z : Fin 100000) : biasRow m d (ix2 0 z) = bias m d (ix1 z) := by
  have e : (biasRow m d : Vec Ideal S1x100000 .f32) = shapeCast S1x100000 (bias m d) shapeCasts_S100000_S1x100000 := by
    unfold biasRow opBias
    rw [StableHlo.reshape_result, ent_arg m d main_arg4 (by simp)]
    rfl
  rw [e]
  pointwise

/-- A token's number, in one line and by sentence. -/
theorem flatIds_at (d : Dev nD) (b : Fin 32) (s : Fin 16) : flatIds m d (ix1 ⟨b.val * 16 + s.val, by omega⟩) = ids m d (ix2 b s) := by
  unfold flatIds
  pointwise

/-- The parity of a row says which half the token's row of the table lies in. -/
theorem parity_names (h : InRange m) (d : Dev nD) (r : Fin 512) :
    Names (parity m d) r (if 50176 ≤ (flatIds m d (ix1 r)).toNat then 64 else 0) := by
  have e : (parity m d : Vec Ideal S512x1 .f32)
      = shapeCast S512x1 (uitofp (F := Ideal) .f32 (cmpi .sge (flatIds m d) (broadcastInDim S512 ![] bcast_S_S512 (constantI S_ 32 50176#32)))) shapeCasts_S512_S512x1 := by
    unfold parity ent opsBefore
    after_results_simp
    rfl
  have hv := flatIds_lt m h d (ix1 r)
  have e' : parity m d (ix2 r 0) = FloatOps.uitofp (F := Ideal) .f32 (IntOp.cmpi .sge (flatIds m d (ix1 r)) 50176#32) := by
    rw [e]
    pointwise
  unfold Names
  rw [e']
  generalize flatIds m d (ix1 r) = v at hv
  by_cases hc : 50176 ≤ v.toNat
  · rw [if_pos hc, show IntOp.cmpi .sge v 50176#32 = 1#1 by
      simp only [IntOp.cmpi, BitVec.sle_eq_decide, BitVec.toInt_eq_toNat_cond, BitVec.toNat_ofNat, Nat.reducePow, Nat.reduceMod]
      rw [decide_eq_true (by omega)]; rfl]
    exact .inl ⟨by show (((1#1 : BitVec 1).toNat : ℝ) : EReal) = 1; simp, rfl⟩
  · rw [if_neg hc, show IntOp.cmpi .sge v 50176#32 = 0#1 by
      simp only [IntOp.cmpi, BitVec.sle_eq_decide, BitVec.toInt_eq_toNat_cond, BitVec.toNat_ofNat, Nat.reducePow, Nat.reduceMod]
      rw [decide_eq_false (by omega)]; rfl]
    exact .inr ⟨by show (((0#1 : BitVec 1).toNat : ℝ) : EReal) = 0; simp, rfl⟩

/-- An element of the gathered rows, in the half that the parity names, is an element of the token's row of the table. -/
theorem gathered_at (h : InRange m) (d : Dev nD) (G : (d : Dev nD) → Buf (Elt Ideal) (oLoc d))
    (hG : ∀ x, ∃ Tb, TO m d Tb ∧ GatheredAt (rowIx m) d Tb (G d) x) (r : Fin 512) (c : Fin 64) (o : ℕ) (ho : o ≤ 64)
    (e : o = if 50176 ≤ (flatIds m d (ix1 r)).toNat then 64 else 0) :
    G d (ix2 r ⟨o + c.val, by have := c.isLt; omega⟩) = table m d (ix2 ⟨(flatIds m d (ix1 r)).toNat, flatIds_lt m h d _⟩ c) := by
  obtain ⟨Tb, hT, hg⟩ := hG (ix2 r ⟨o + c.val, by have := c.isLt; omega⟩)
  have hv := flatIds_lt m h d (ix1 r)
  have hr := rowIx_at m h d (ix1 r)
  have hc := c.isLt
  have hrow : (rowIx m d (ix1 r) : BitVec 32).toNat < 50176 := rows_in_range m h d (ix1 r)
  have hgy := hg (ix1 r) (ix2 ⟨(rowIx m d (ix1 r) : BitVec 32).toNat, hrow⟩ ⟨o + c.val, by omega⟩) rfl rfl rfl
  refine hgy.trans ?_
  have hp := packed_value (tableT m) (packed₀ m) d Tb hT (ix2 ⟨(rowIx m d (ix1 r) : BitVec 32).toNat, hrow⟩ ⟨o + c.val, by omega⟩)
  rw [← tableT_at]
  by_cases hcase : 50176 ≤ (flatIds m d (ix1 r)).toNat
  · rw [if_pos hcase] at e hr
    refine hp.2 c _ ?_ ?_
    · show o + c.val = _; omega
    · show (flatIds m d (ix1 r)).toNat = 50176 + (rowIx m d (ix1 r) : BitVec 32).toNat
      omega
  · rw [if_neg hcase] at e hr
    refine hp.1 c _ ?_ ?_
    · show o + c.val = _; omega
    · show (flatIds m d (ix1 r)).toNat = (rowIx m d (ix1 r) : BitVec 32).toNat
      omega

/-- The score of word `v` for the token at place `s` of sentence `b`: the token's row of the table, times the word's weights, plus
    the word's bias. -/
def score (h : InRange m) (d : Dev nD) (b : Fin 32) (s : Fin 16) (v : Fin 100000) : EReal :=
  (∑ k : Fin 64, (table m d (ix2 ⟨(ids m d (ix2 b s)).toNat, h d _⟩ k) * weights m d (ix2 v k) : EReal)) + bias m d (ix1 v)

/-- The scores, laid out by sentence. -/
theorem by_sentence (f : Vec Ideal S512x100000 .f32) (b : Fin 32) (s : Fin 16) (v : Fin 100000) :
    shapeCast S32x16x100000 f shapeCasts_S512x100000_S32x16x100000 (ix3 b s v) = f (ix2 (⟨b.val * 16 + s.val, by omega⟩ : Fin 512) v) := by
  pointwise

/-- A result that is right holds every score. -/
theorem result_at (h : InRange m) (d : Dev nD) (x : Buf (Elt Ideal) ((SparseCore.T (nD := nD) (τ := τ) d).loc main_v14)) (hx : ResultOK m d x)
    (b : Fin 32) (s : Fin 16) (v : Fin 100000) : x (ix3 b s v) = score m h d b s v := by
  obtain ⟨G, f, hG, hf, rfl⟩ := hx
  have hb := b.isLt
  have hs := s.isLt
  have ho : (if 50176 ≤ (flatIds m d (ix1 (⟨b.val * 16 + s.val, by omega⟩ : Fin 512))).toNat then 64 else 0) ≤ 64 := by split <;> omega
  have key := scored_value G (parity m) (weightsT m) (biasRow m) d (scores₀ m) f hf (ix2 (⟨b.val * 16 + s.val, by omega⟩ : Fin 512) v) _ ho
    (parity_names m h d ⟨b.val * 16 + s.val, by omega⟩)
  refine (by_sentence f b s v).trans (key.trans ?_)
  unfold scoreOf score
  have e1 : biasRow m d (ix2 0 v) = bias m d (ix1 v) := biasRow_at m d v
  refine (congrArg₂ (fun s t : EReal => s + t) (Finset.sum_congr rfl fun k _ => ?_) e1)
  refine congrArg₂ (fun s t : EReal => s * t) ((gathered_at m h d G hG _ k _ ho rfl).trans ?_) (weightsT_at m d k v)
  refine congrArg (fun z => table m d (ix2 z k)) (Fin.ext ?_)
  show (flatIds m d (ix1 _)).toNat = (ids m d (ix2 b s)).toNat
  rw [flatIds_at]

end Cert.Proof.Lookup

end
-- ==== Proof.RefValue.lean ====
/-
  The reference's result, element by element, over the extended reals: the row of the table that the token's number names, times
  the weights, plus the bias; and the end of its runs.
-/
module

public import proofs.«01_k».proof.Defs
public import proofs.«01_k».proof.Proof.Gen.Pre_in_range
public import proofs.«01_k».proof.Proof.Gen.ReferenceIdeal.Run
public import Idealize.ShloMosaic.Lib.Pointwise
public import Idealize.ShloMosaic.Lib.Quiescent
public import Idealize.ShloMosaic.Lib.WordCmp
public import Idealize.ShloMosaic.Lib.Tactic.CleanTypes

@[expose] public section

noncomputable section

namespace Cert.Proof.Reference

open Cert.ReferenceIdeal Cert.ReferenceIdeal.Gen
open Idealize.ShloMosaic Idealize.ShloMosaic.TcCoe Idealize.ShloMosaic.Tactic Idealize.SL.Sem

/-- The reference's runs end with the arguments unchanged; it has no semaphores, so that none is left raised. -/
theorem ends : Cert.quiescent_ReferenceIdeal := fun m g _ =>
  (θ_run Cert.ReferenceIdeal.defs _ _).mono (fun r h => ⟨fun c => (h c).2, sem_eq_zero_of_no_sems (by decide) r.2⟩) (Cert.ReferenceIdeal.Value.run (F := Ideal) m g)

theorem ends_in_range : Cert.quiescent_ReferenceIdeal_pre_in_range := fun m g _ => ends m g trivial

/-- A row that the gather takes is the row that the number names, where the number is one of the table's rows. -/
theorem gather_at (x : Vec Ideal S100000x64 .f32) (idx : IVec S32x16x1 32) (b : Fin 32) (s : Fin 16) (k : Fin 64) (h : (idx (ix3 b s 0)).toNat < 100000) :
    Host.gather gather_S100000x64_S32x16x1_S32x16x64_2_0_n_n_0_2_164 x idx (ix3 b s k) = x (ix2 ⟨(idx (ix3 b s 0)).toNat, h⟩ k) := by
  unfold Host.gather
  refine congrArg x (funext fun a => Fin.ext ?_)
  fin_cases a
  · show min (idx (gather_S100000x64_S32x16x1_S32x16x64_2_0_n_n_0_2_164.siIdx (ix3 b s k) ⟨0, by decide⟩)).toInt.toNat 99999 + 0 + 0 = (idx (ix3 b s 0)).toNat
    have e : gather_S100000x64_S32x16x1_S32x16x64_2_0_n_n_0_2_164.siIdx (ix3 b s k) ⟨0, by decide⟩ = ix3 b s 0 := by
      funext a; fin_cases a <;> rfl
    rw [e, BitVec.toInt_eq_toNat_cond]
    split <;> omega
  · show 0 + 0 + k.val = k.val
    omega

/-- The table's row numbers as the reference makes them of the tokens' numbers: a negative one counts from the end. -/
def rowNumbers (ids : IVec S32x16 32) : IVec S32x16x1 32 :=
  broadcastInDim S32x16x1 ![0, 1] bcast_S32x16_S32x16x1_0_1 (select (cmpi .slt ids (broadcastInDim S32x16 ![] bcast_S_S32x16 (constantI S_ 32 0#32)))
    (addi ids (broadcastInDim S32x16 ![] bcast_S_S32x16 (constantI S_ 32 100000#32))) ids)

/-- Whether such a number is one of the table's rows. -/
def inTable (ids : IVec S32x16 32) : IVec S32x16 1 :=
  Host.reduce IntOp.andi (andi (cmpi .sge (rowNumbers ids) (broadcastInDim S32x16x1 ![] bcast_S_S32x16x1 (constantI S_ 32 0#32)))
    (cmpi .sle (rowNumbers ids) (broadcastInDim S32x16x1 ![0, 1, 2] bcast_S1x1x1_S32x16x1_0_1_2 (broadcastInDim S1x1x1 ![2] bcast_S1_S1x1x1_2 (constantI S1 32 99999#32)))))
    (constantI S_ 1 1#1) reducesTo_S32x16x1_S32x16_d2 h_S_

theorem rowNumbers_at (ids : IVec S32x16 32) (b : Fin 32) (s : Fin 16) (h : (ids (ix2 b s)).toNat < 100000) : rowNumbers ids (ix3 b s 0) = ids (ix2 b s) := by
  unfold rowNumbers
  pointwise
  generalize ids (ix2 b s) = v at h ⊢
  rw [show IntOp.cmpi .slt v 0#32 = 0#1 by
    simp only [IntOp.cmpi, BitVec.slt_eq_decide, BitVec.toInt_eq_toNat_cond, BitVec.toNat_ofNat, Nat.reducePow, Nat.reduceMod]
    rw [decide_eq_false (by omega)]; rfl]
  rfl

theorem inTable_at (ids : IVec S32x16 32) (b : Fin 32) (s : Fin 16) (h : (ids (ix2 b s)).toNat < 100000) : inTable ids (ix2 b s) = 1#1 := by
  unfold inTable
  pointwise
  rw [show (Finset.univ : Finset (Fin 1)) = {0} from rfl, Finset.fold_singleton, rowNumbers_at ids b s h]
  generalize ids (ix2 b s) = v at h ⊢
  rw [show IntOp.cmpi .sge v 0#32 = 1#1 by
      simp only [IntOp.cmpi, BitVec.sle_eq_decide, BitVec.toInt_eq_toNat_cond, BitVec.toNat_ofNat, Nat.reducePow, Nat.reduceMod]
      rw [decide_eq_true (by omega)]; rfl,
    show IntOp.cmpi .sle v 99999#32 = 1#1 by
      simp only [IntOp.cmpi, BitVec.sle_eq_decide, BitVec.toInt_eq_toNat_cond, BitVec.toNat_ofNat, Nat.reducePow, Nat.reduceMod]
      rw [decide_eq_true (by omega)]; rfl]
  rfl

/-- The reference's result. -/
def result (ids : IVec S32x16 32) (table weights : Vec Ideal S100000x64 .f32) (bias : Vec Ideal S100000 .f32) : Vec Ideal S32x16x100000 .f32 :=
  addf (F := Ideal) (φ := .f32) (Host.dotGeneral (φ₁ := .f32) (φ₂ := .f32) dot_S32x16x64_S100000x64_S32x16x100000_2_1_01_0_n_n none
      (select (broadcastInDim S32x16x64 ![0, 1] bcast_S32x16_S32x16x64_0_1 (inTable ids))
        (Host.gather gather_S100000x64_S32x16x1_S32x16x64_2_0_n_n_0_2_164 table (rowNumbers ids))
        (broadcastInDim S32x16x64 ![] bcast_S_S32x16x64 (constant S_ .f32 0x7FC00000#32))) weights)
    (broadcastInDim S32x16x100000 ![0, 1, 2] bcast_S1x1x100000_S32x16x100000_0_1_2 (broadcastInDim S1x1x100000 ![2] bcast_S100000_S1x1x100000_2 bias))

/-- Its elements: the token's row of the table, times the word's weights, plus the word's bias. -/
theorem result_at (ids : IVec S32x16 32) (table weights : Vec Ideal S100000x64 .f32) (bias : Vec Ideal S100000 .f32) (h : ∀ z, (ids z).toNat < 100000)
    (b : Fin 32) (s : Fin 16) (v : Fin 100000) : result ids table weights bias (ix3 b s v)
      = ((∑ k : Fin 64, (table (ix2 ⟨(ids (ix2 b s)).toNat, h _⟩ k) * weights (ix2 v k) : EReal)) + bias (ix1 v) : EReal) := by
  unfold result
  pointwise
  rw [inTable_at ids b s (h _)]
  have e := rowNumbers_at ids b s (h _)
  refine congrArg₂ (fun s t : EReal => s + t) (Finset.sum_congr rfl fun k _ => congrArg₂ (fun s t : EReal => s * t) ?_ rfl) rfl
  refine (gather_at table (rowNumbers ids) b s k (lt_of_eq_of_lt (congrArg BitVec.toNat e) (h _))).trans ?_
  exact congrArg (fun z => table (ix2 z k)) (Fin.ext (congrArg BitVec.toNat e))

/-- The reference runs to that result. -/
theorem runs (m : (ℓ : Loc nD τ sig) → Buf (Elt Ideal) ℓ) (g : Dev nD → PrngReg) :
    θ_run (Cert.ReferenceIdeal.defs (F := Ideal)) (onTc (τ := τ) (main (F := Ideal))) ⟨m, fun _ => 0, g⟩ fun r => ∀ c : Dev nD,
      r.2.mem ((c.tc : Thread nD τ).loc main_v4) = result (m ((c.tc : Thread nD τ).loc main_arg0)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m g

end Cert.Proof.Reference

end
-- ==== Proof.Algebraic.lean ====
/-
  Over the extended reals, the kernel and the reference end with the same scores.
-/
module

public import proofs.«01_k».proof.Proof.KernelValue
public import proofs.«01_k».proof.Proof.RefValue

@[expose] public section

noncomputable section

namespace Cert.Proof

open Cert.KernelIdeal Cert.KernelIdeal.Gen Cert.Proof.Lookup
open Idealize.ShloMosaic Idealize.ShloMosaic.TcCoe Idealize.ShloMosaic.Tactic Idealize.SL.Sem

/-- The reference's result on the kernel's arguments. -/
def expected (m : (ℓ : Loc nD τ sig) → Buf (Elt Ideal) ℓ) (d : Dev nD) : Vec Ideal S32x16x100000 .f32 :=
  Reference.result (ids m d) (table m d) (weights m d) (bias m d)

/-- A result of the kernel that is right is the reference's result on the same arguments. -/
theorem result_eq (m : (ℓ : Loc nD τ sig) → Buf (Elt Ideal) ℓ) (h : InRange m) (d : Dev nD)
    (x : Buf (Elt Ideal) ((SparseCore.T (nD := nD) (τ := τ) d).loc main_v14)) (hx : ResultOK m d x) : x = expected m d := by
  have key : ∀ (b : Fin 32) (s : Fin 16) (v : Fin 100000), x (ix3 b s v) = expected m d (ix3 b s v) := fun b s v =>
    (result_at m h d x hx b s v).trans (Reference.result_at (ids m d) (table m d) (weights m d) (bias m d) (h d) b s v).symm
  funext i
  have hi : i = ix3 (n0 := 32) (n1 := 16) (n2 := 100000) (i 0) (i 1) (i 2) := by
    funext a; fin_cases a <;> rfl
  rw [hi]
  exact key _ _ _

/-- From the same arguments, with every token's number one of the table's rows, the two programs' results are equal. -/
theorem algebraic : Cert.algebraic_KernelIdeal_ReferenceIdeal := fun m g m' g' hpre hargs => by
  have h : InRange m := fun d z => in_range_of _ _ _ _ _ (hpre d) z
  refine ⟨fun c => expected m c, ?_, ?_⟩
  · refine (θ_run _ _ _).mono (fun r hr c => ?_) (run_all m g h)
    obtain ⟨⟨h0, h1, h2, h3, h4⟩, hx⟩ := hr.1 c
    exact ⟨result_eq m h c _ hx, h0, h1, h2, h3, h4⟩
  · refine (θ_run _ _ _).mono (fun r hr c => ?_) (Reference.runs m' g')
    obtain ⟨a0, a1, a2, a3, a4⟩ := hargs c
    refine ⟨(hr c).1.trans ?_, (hr c).2⟩
    rw [a0, a2, a3, a4]
    rfl

end Cert.Proof

end
-- ==== Proof.lean ====
/-
  The proof of the claims: the kernel, as printed and idealized, runs to its end with its arguments unchanged and every semaphore
  back at zero, where every token's number is one of the table's rows; so does the reference; nothing was rewritten between the two
  printings; and over the extended reals the kernel's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Algebraic

@[expose] public section

noncomputable section

namespace Cert.Proof

/-- Every claim made of the kernel and of the reference. -/
theorem claim : Cert.Claim :=
  ⟨Cert.Kernel.Gen.facts, Cert.KernelIdeal.Gen.facts, Cert.ReferenceIdeal.Gen.facts, Cert.Pre_in_range.Gen.facts,
    Lookup.frame_kernel, Lookup.frame_ideal, Reference.ends, Reference.ends_in_range, trivial, algebraic⟩

end Cert.Proof

end
